-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S8x1024x1024 : Shape := ⟨3, ![8, 1024, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S1024x512 : Shape := ⟨2, ![1024, 512]⟩
abbrev S512 : Shape := ⟨1, ![512]⟩
abbrev S1024x1024 : Shape := ⟨2, ![1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4240 : S_.BroadcastsInDim S1024x4240 (![] : Fin 0 → Fin S1024x4240.rank)
  reducesTo_S1024x4240_S_d0_1 : S1024x4240.ReducesTo [0, 1] S_
  bcast_S_S3x1x2176 : S_.BroadcastsInDim S3x1x2176 (![] : Fin 0 → Fin S3x1x2176.rank)
  reducesTo_S3x1x2176_S_d0_1_2 : S3x1x2176.ReducesTo [0, 1, 2] S_
  bcast_S_S2176 : S_.BroadcastsInDim S2176 (![] : Fin 0 → Fin S2176.rank)
  reducesTo_S2176_S_d0 : S2176.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S2176 .f32) (main_arg5 : FVec F S16 .f32) (main_arg6 : FVec F S16 .f32) (main_v13 : IVec S_ 1) (main_v16 : IVec S3x1x2176 1) : IVec S_ 1 :=
  let main_c_5 : IVec S_ 1 := constantI S_ 1 1#1
  let main_v17 : IVec S_ 1 := (fun x v => Host.reduce IntOp.andi x v reducesTo_S3x1x2176_S_d0_1_2 h_S_) main_v16 main_c_5
  let main_v18 : IVec S_ 1 := andi main_v13 main_v17
  let main_v19 : FVec F S2176 .f32 := Host.absf main_arg4
  let main_cst_6 : FVec F S_ .f32 := constant S_ .f32 0x7F800000#32
  let main_v20 : FVec F S2176 .f32 := broadcastInDim S2176 ![] bcast_S_S2176 main_cst_6
  let main_v21 : IVec S2176 1 := cmpf .olt main_v19 main_v20
  let main_c_7 : IVec S_ 1 := constantI S_ 1 1#1
  let main_v22 : IVec S_ 1 := (fun x v => Host.reduce IntOp.andi x v reducesTo_S2176_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S8x1024x1024 .f32) (main_arg1 : FVec F S1024 .f32) (main_arg2 : FVec F S1024x4240 .f32) (main_arg3 : FVec F S3x1x2176 .f32) (main_arg4 : FVec F S2176 .f32) (main_arg5 : FVec F S16 .f32) (main_arg6 : FVec F S16 .f32) (main_arg7 : FVec F S16 .f32) (main_arg8 : FVec F S2048 .f32) (main_arg9 : FVec F S2048x1024 .f32) (main_arg10 : FVec F S1024x512 .f32) (main_arg11 : FVec F S512 .f32) (main_arg12 : FVec F S1024x1024 .f32) (main_arg13 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4240 .f32 := Host.absf main_arg2
  let main_cst_2 : FVec F S_ .f32 := constant S_ .f32 0x7F800000#32
  let main_v10 : FVec F S1024x4240 .f32 := broadcastInDim S1024x4240 ![] bcast_S_S1024x4240 main_cst_2
  let main_v11 : IVec S1024x4240 1 := cmpf .olt main_v9 main_v10
  let main_c_3 : IVec S_ 1 := constantI S_ 1 1#1
  let main_v12 : IVec S_ 1 := (fun x v => Host.reduce IntOp.andi x v reducesTo_S1024x4240_S_d0_1 h_S_) main_v11 main_c_3
  let main_v13 : IVec S_ 1 := andi main_v8 main_v12
  let main_v14 : FVec F S3x1x2176 .f32 := Host.absf main_arg3
  let main_cst_4 : FVec F S_ .f32 := constant S_ .f32 0x7F800000#32
  let main_v15 : FVec F S3x1x2176 .f32 := broadcastInDim S3x1x2176 ![] bcast_S_S3x1x2176 main_cst_4
  let main_v16 : IVec S3x1x2176 1 := cmpf .olt main_v14 main_v15
  fn_part1 (F := F) main_arg4 main_arg5 main_arg6 main_v13 main_v16
-- ==== Pre_finite2.lean ====
abbrev S8x1024x1024 : Shape := ⟨3, ![8, 1024, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4240 : S_.BroadcastsInDim S1024x4240 (![] : Fin 0 → Fin S1024x4240.rank)
  reducesTo_S1024x4240_S_d0_1 : S1024x4240.ReducesTo [0, 1] S_
  bcast_S_S3x1x2176 : S_.BroadcastsInDim S3x1x2176 (![] : Fin 0 → Fin S3x1x2176.rank)
  reducesTo_S3x1x2176_S_d0_1_2 : S3x1x2176.ReducesTo [0, 1, 2] S_
  bcast_S_S2176 : S_.BroadcastsInDim S2176 (![] : Fin 0 → Fin S2176.rank)
  reducesTo_S2176_S_d0 : S2176.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S2176 .f32) (main_arg5 : FVec F S16 .f32) (main_arg6 : FVec F S16 .f32) (main_v13 : IVec S_ 1) (main_v16 : IVec S3x1x2176 1) : IVec S_ 1 :=
  let main_c_5 : IVec S_ 1 := constantI S_ 1 1#1
  let main_v17 : IVec S_ 1 := (fun x v => Host.reduce IntOp.andi x v reducesTo_S3x1x2176_S_d0_1_2 h_S_) main_v16 main_c_5
  let main_v18 : IVec S_ 1 := andi main_v13 main_v17
  let main_v19 : FVec F S2176 .f32 := Host.absf main_arg4
  let main_cst_6 : FVec F S_ .f32 := constant S_ .f32 0x7F800000#32
  let main_v20 : FVec F S2176 .f32 := broadcastInDim S2176 ![] bcast_S_S2176 main_cst_6
  let main_v21 : IVec S2176 1 := cmpf .olt main_v19 main_v20
  let main_c_7 : IVec S_ 1 := constantI S_ 1 1#1
  let main_v22 : IVec S_ 1 := (fun x v => Host.reduce IntOp.andi x v reducesTo_S2176_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S8x1024x1024 .f32) (main_arg1 : FVec F S1024 .f32) (main_arg2 : FVec F S1024x4240 .f32) (main_arg3 : FVec F S3x1x2176 .f32) (main_arg4 : FVec F S2176 .f32) (main_arg5 : FVec F S16 .f32) (main_arg6 : FVec F S16 .f32) (main_arg7 : FVec F S16 .f32) (main_arg8 : FVec F S2048 .f32) (main_arg9 : FVec F S2048x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4240 .f32 := Host.absf main_arg2
  let main_cst_2 : FVec F S_ .f32 := constant S_ .f32 0x7F800000#32
  let main_v10 : FVec F S1024x4240 .f32 := broadcastInDim S1024x4240 ![] bcast_S_S1024x4240 main_cst_2
  let main_v11 : IVec S1024x4240 1 := cmpf .olt main_v9 main_v10
  let main_c_3 : IVec S_ 1 := constantI S_ 1 1#1
  let main_v12 : IVec S_ 1 := (fun x v => Host.reduce IntOp.andi x v reducesTo_S1024x4240_S_d0_1 h_S_) main_v11 main_c_3
  let main_v13 : IVec S_ 1 := andi main_v8 main_v12
  let main_v14 : FVec F S3x1x2176 .f32 := Host.absf main_arg3
  let main_cst_4 : FVec F S_ .f32 := constant S_ .f32 0x7F800000#32
  let main_v15 : FVec F S3x1x2176 .f32 := broadcastInDim S3x1x2176 ![] bcast_S_S3x1x2176 main_cst_4
  let main_v16 : IVec S3x1x2176 1 := cmpf .olt main_v14 main_v15
  fn_part1 (F := F) main_arg4 main_arg5 main_arg6 main_v13 main_v16
-- ==== Pre_finite3.lean ====
abbrev S8x1024x512 : Shape := ⟨3, ![8, 1024, 512]⟩
abbrev S512x1024 : Shape := ⟨2, ![512, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4240 : S_.BroadcastsInDim S1024x4240 (![] : Fin 0 → Fin S1024x4240.rank)
  reducesTo_S1024x4240_S_d0_1 : S1024x4240.ReducesTo [0, 1] S_
  bcast_S_S3x1x2176 : S_.BroadcastsInDim S3x1x2176 (![] : Fin 0 → Fin S3x1x2176.rank)
  reducesTo_S3x1x2176_S_d0_1_2 : S3x1x2176.ReducesTo [0, 1, 2] S_
  bcast_S_S2176 : S_.BroadcastsInDim S2176 (![] : Fin 0 → Fin S2176.rank)
  reducesTo_S2176_S_d0 : S2176.ReducesTo [0] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_arg8 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S1024x4240 .f32) (main_arg5 : FVec F S3x1x2176 .f32) (main_arg6 : FVec F S2176 .f32) (main_arg7 : FVec F S16 .f32) (main_arg8 : FVec F S16 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4240 .f32 := Host.absf main_arg4
  let main_cst_6 : FVec F S_ .f32 := constant S_ .f32 0x7F800000#32
  let main_v20 : FVec F S1024x4240 .f32 := broadcastInDim S1024x4240 ![] bcast_S_S1024x4240 main_cst_6
  let main_v21 : IVec S1024x4240 1 := cmpf .olt main_v19 main_v20
  let main_c_7 : IVec S_ 1 := constantI S_ 1 1#1
  let main_v22 : IVec S_ 1 := (fun x v => Host.reduce IntOp.andi x v reducesTo_S1024x4240_S_d0_1 h_S_) main_v21 main_c_7
  let main_v23 : IVec S_ 1 := andi main_v18 main_v22
  let main_v24 : FVec F S3x1x2176 .f32 := Host.absf main_arg5
  let main_cst_8 : FVec F S_ .f32 := constant S_ .f32 0x7F800000#32
  let main_v25 : FVec F S3x1x2176 .f32 := broadcastInDim S3x1x2176 ![] bcast_S_S3x1x2176 main_cst_8
  let main_v26 : IVec S3x1x2176 1 := cmpf .olt main_v24 main_v25
  let main_c_9 : IVec S_ 1 := constantI S_ 1 1#1
  let main_v27 : IVec S_ 1 := (fun x v => Host.reduce IntOp.andi x v reducesTo_S3x1x2176_S_d0_1_2 h_S_) main_v26 main_c_9
  let main_v28 : IVec S_ 1 := andi main_v23 main_v27
  let main_v29 : FVec F S2176 .f32 := Host.absf main_arg6
  let main_cst_10 : FVec F S_ .f32 := constant S_ .f32 0x7F800000#32
  let main_v30 : FVec F S2176 .f32 := broadcastInDim S2176 ![] bcast_S_S2176 main_cst_10
  let main_v31 : IVec S2176 1 := cmpf .olt main_v29 main_v30
  let main_c_11 : IVec S_ 1 := constantI S_ 1 1#1
  let main_v32 : IVec S_ 1 := (fun x v => Host.reduce IntOp.andi x v reducesTo_S2176_S_d0 h_S_) main_v31 main_c_11
  let main_v33 : IVec S_ 1 := andi main_v28 main_v32
  fn_part2 (F := F) main_arg7 main_arg8 main_v33

def fn {F : FTy → Type} [FloatOps F] (main_arg0 : FVec F S8x1024x512 .f32) (main_arg1 : FVec F S512x1024 .f32) (main_arg2 : FVec F S1024 .f32) (main_arg3 : FVec F S1024 .f32) (main_arg4 : FVec F S1024x4240 .f32) (main_arg5 : FVec F S3x1x2176 .f32) (main_arg6 : FVec F S2176 .f32) (main_arg7 : FVec F S16 .f32) (main_arg8 : FVec F S16 .f32) (main_arg9 : FVec F S16 .f32) (main_arg10 : FVec F S2048 .f32) (main_arg11 : FVec F S2048x1024 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S8x1024x1024 : Shape := ⟨3, ![8, 1024, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S1024x512 : Shape := ⟨2, ![1024, 512]⟩
abbrev S512 : Shape := ⟨1, ![512]⟩
abbrev S1024x1024 : Shape := ⟨2, ![1024, 1024]⟩
abbrev S_ : Shape := ⟨0, ![]⟩
abbrev S2048x128 : Shape := ⟨2, ![2048, 128]⟩
abbrev S1024x1536 : Shape := ⟨2, ![1024, 1536]⟩
abbrev S1536 : Shape := ⟨1, ![1536]⟩
abbrev S1x1536 : Shape := ⟨2, ![1, 1536]⟩
abbrev S3x2176 : Shape := ⟨2, ![3, 2176]⟩
abbrev S1x2176 : Shape := ⟨2, ![1, 2176]⟩
abbrev S1x16 : Shape := ⟨2, ![1, 16]⟩
abbrev S1x2048 : Shape := ⟨2, ![1, 2048]⟩
abbrev S1x1024 : Shape := ⟨2, ![1, 1024]⟩
abbrev S1x128 : Shape := ⟨2, ![1, 128]⟩
abbrev S8x1024x1536 : Shape := ⟨3, ![8, 1024, 1536]⟩
abbrev S1x256x1024 : Shape := ⟨3, ![1, 256, 1024]⟩
abbrev S1x256x1536 : Shape := ⟨3, ![1, 256, 1536]⟩
abbrev S16x128x128 : Shape := ⟨3, ![16, 128, 128]⟩
abbrev S8x2176 : Shape := ⟨2, ![8, 2176]⟩
abbrev S256x2048 : Shape := ⟨2, ![256, 2048]⟩
abbrev S256x1024 : Shape := ⟨2, ![256, 1024]⟩
abbrev S1024x128 : Shape := ⟨2, ![1024, 128]⟩
abbrev S256x128 : Shape := ⟨2, ![256, 128]⟩
abbrev S256x4240 : Shape := ⟨2, ![256, 4240]⟩
abbrev S256x2176 : Shape := ⟨2, ![256, 2176]⟩
abbrev S256x16 : Shape := ⟨2, ![256, 16]⟩
abbrev S2x2176 : Shape := ⟨2, ![2, 2176]⟩
abbrev S254x2176 : Shape := ⟨2, ![254, 2176]⟩
abbrev S255x2176 : Shape := ⟨2, ![255, 2176]⟩
abbrev S256x64 : Shape := ⟨2, ![256, 64]⟩
abbrev S256x256 : Shape := ⟨2, ![256, 256]⟩
abbrev S255x16 : Shape := ⟨2, ![255, 16]⟩
abbrev S2x16 : Shape := ⟨2, ![2, 16]⟩
abbrev S254x16 : Shape := ⟨2, ![254, 16]⟩
abbrev S4x16 : Shape := ⟨2, ![4, 16]⟩
abbrev S252x16 : Shape := ⟨2, ![252, 16]⟩
abbrev S8x16 : Shape := ⟨2, ![8, 16]⟩
abbrev S248x16 : Shape := ⟨2, ![248, 16]⟩
abbrev S16x16 : Shape := ⟨2, ![16, 16]⟩
abbrev S240x16 : Shape := ⟨2, ![240, 16]⟩
abbrev S32x16 : Shape := ⟨2, ![32, 16]⟩
abbrev S224x16 : Shape := ⟨2, ![224, 16]⟩
abbrev S64x16 : Shape := ⟨2, ![64, 16]⟩
abbrev S192x16 : Shape := ⟨2, ![192, 16]⟩
abbrev S128x16 : Shape := ⟨2, ![128, 16]⟩
abbrev S16x256 : Shape := ⟨2, ![16, 256]⟩
abbrev S256x1 : Shape := ⟨2, ![256, 1]⟩
abbrev S1x1 : Shape := ⟨2, ![1, 1]⟩
abbrev S1x256 : Shape := ⟨2, ![1, 256]⟩
abbrev S1x128x128 : Shape := ⟨3, ![1, 128, 128]⟩
abbrev S128x128 : Shape := ⟨2, ![128, 128]⟩
abbrev S256x1536 : Shape := ⟨2, ![256, 1536]⟩

abbrev nBuf : Space → Nat
  | .hbm => 34
  | .vmem => 21
  | .smem => 0
  | _ => 0

abbrev bufTy : (tb : Table) → Fin (tcTables nBuf tb) → BufTy
  | .hbm, ⟨0, _⟩ => ⟨S8x1024x1024, .f32⟩
  | .hbm, ⟨1, _⟩ => ⟨S1024, .f32⟩
  | .hbm, ⟨2, _⟩ => ⟨S1024x4240, .f32⟩
  | .hbm, ⟨3, _⟩ => ⟨S3x1x2176, .f32⟩
  | .hbm, ⟨4, _⟩ => ⟨S2176, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S2048, .f32⟩
  | .hbm, ⟨9, _⟩ => ⟨S2048x1024, .f32⟩
  | .hbm, ⟨10, _⟩ => ⟨S1024x512, .f32⟩
  | .hbm, ⟨11, _⟩ => ⟨S512, .f32⟩
  | .hbm, ⟨12, _⟩ => ⟨S1024x1024, .f32⟩
  | .hbm, ⟨13, _⟩ => ⟨S1024, .f32⟩
  | .hbm, ⟨14, _⟩ => ⟨S_, .bf16⟩
  | .hbm, ⟨15, _⟩ => ⟨S2048x128, .bf16⟩
  | .hbm, ⟨16, _⟩ => ⟨S1024x4240, .bf16⟩
  | .hbm, ⟨17, _⟩ => ⟨S2048x1024, .bf16⟩
  | .hbm, ⟨18, _⟩ => ⟨S1024x1536, .f32⟩
  | .hbm, ⟨19, _⟩ => ⟨S1024x1536, .bf16⟩
  | .hbm, ⟨20, _⟩ => ⟨S1536, .f32⟩
  | .hbm, ⟨21, _⟩ => ⟨S1x1536, .f32⟩
  | .hbm, ⟨22, _⟩ => ⟨S3x2176, .f32⟩
  | .hbm, ⟨23, _⟩ => ⟨S1x2176, .f32⟩
  | .hbm, ⟨24, _⟩ => ⟨S1x16, .f32⟩
  | .hbm, ⟨25, _⟩ => ⟨S1x16, .f32⟩
  | .hbm, ⟨26, _⟩ => ⟨S1x16, .f32⟩
  | .hbm, ⟨27, _⟩ => ⟨S1x2048, .f32⟩
  | .hbm, ⟨28, _⟩ => ⟨S1x1024, .f32⟩
  | .hbm, ⟨29, _⟩ => ⟨S_, .bf16⟩
  | .hbm, ⟨30, _⟩ => ⟨S1x128, .bf16⟩
  | .hbm, ⟨31, _⟩ => ⟨S_, .f32⟩
  | .hbm, ⟨32, _⟩ => ⟨S1x128, .f32⟩
  | .hbm, ⟨33, _⟩ => ⟨S8x1024x1536, .f32⟩
  | .local _ .vmem, ⟨0, _⟩ => ⟨S1x256x1024, .f32⟩
  | .local _ .vmem, ⟨1, _⟩ => ⟨S1x256x1024, .f32⟩
  | .local _ .vmem, ⟨2, _⟩ => ⟨S1x128, .bf16⟩
  | .local _ .vmem, ⟨3, _⟩ => ⟨S1x128, .f32⟩
  | .local _ .vmem, ⟨4, _⟩ => ⟨S1024x4240, .bf16⟩
  | .local _ .vmem, ⟨5, _⟩ => ⟨S3x2176, .f32⟩
  | .local _ .vmem, ⟨6, _⟩ => ⟨S1x2176, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x2048, .f32⟩
  | .local _ .vmem, ⟨11, _⟩ => ⟨S1x1024, .f32⟩
  | .local _ .vmem, ⟨12, _⟩ => ⟨S2048x1024, .bf16⟩
  | .local _ .vmem, ⟨13, _⟩ => ⟨S1024x1536, .bf16⟩
  | .local _ .vmem, ⟨14, _⟩ => ⟨S1x1536, .f32⟩
  | .local _ .vmem, ⟨15, _⟩ => ⟨S2048x128, .bf16⟩
  | .local _ .vmem, ⟨16, _⟩ => ⟨S1x256x1536, .f32⟩
  | .local _ .vmem, ⟨17, _⟩ => ⟨S1x256x1536, .f32⟩
  | .local _ .vmem, ⟨18, _⟩ => ⟨S16x128x128, .f32⟩
  | .local _ .vmem, ⟨19, _⟩ => ⟨S8x2176, .f32⟩
  | .local _ .vmem, ⟨20, _⟩ => ⟨S256x2048, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S8x1024x1024 : Shape := ⟨3, ![8, 1024, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S1024x512 : Shape := ⟨2, ![1024, 512]⟩
abbrev S512 : Shape := ⟨1, ![512]⟩
abbrev S1024x1024 : Shape := ⟨2, ![1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x4240 : Shape := ⟨3, ![8, 1024, 4240]⟩
abbrev S8x1024x2048 : Shape := ⟨3, ![8, 1024, 2048]⟩
abbrev S8x1024x2176 : Shape := ⟨3, ![8, 1024, 2176]⟩
abbrev S8x1024x16 : Shape := ⟨3, ![8, 1024, 16]⟩
abbrev S8x1026x2176 : Shape := ⟨3, ![8, 1026, 2176]⟩
abbrev S1x1x2176 : Shape := ⟨3, ![1, 1, 2176]⟩
abbrev S8x1024x64 : Shape := ⟨3, ![8, 1024, 64]⟩
abbrev S1x1x16 : Shape := ⟨3, ![1, 1, 16]⟩
abbrev S8x1024x16x128 : Shape := ⟨4, ![8, 1024, 16, 128]⟩
abbrev S1024x8x16 : Shape := ⟨3, ![1024, 8, 16]⟩
abbrev S1024x8x64 : Shape := ⟨3, ![1024, 8, 64]⟩
abbrev S1024x8x16x128 : Shape := ⟨4, ![1024, 8, 16, 128]⟩
abbrev S8x16x128x64 : Shape := ⟨4, ![8, 16, 128, 64]⟩
abbrev S1x8x16 : Shape := ⟨3, ![1, 8, 16]⟩
abbrev S8x16 : Shape := ⟨2, ![8, 16]⟩
abbrev S1x8x64 : Shape := ⟨3, ![1, 8, 64]⟩
abbrev S8x64 : Shape := ⟨2, ![8, 64]⟩
abbrev S1x8x16x128 : Shape := ⟨4, ![1, 8, 16, 128]⟩
abbrev S8x16x128 : Shape := ⟨3, ![8, 16, 128]⟩
abbrev S1x16 : Shape := ⟨2, ![1, 16]⟩
abbrev S8x16x1x1 : Shape := ⟨4, ![8, 16, 1, 1]⟩
abbrev S8x16x128x1 : Shape := ⟨4, ![8, 16, 128, 1]⟩
abbrev S8x1x1x64 : Shape := ⟨4, ![8, 1, 1, 64]⟩
abbrev S1x1x16x1 : Shape := ⟨4, ![1, 1, 16, 1]⟩
abbrev S1x1x2048 : Shape := ⟨3, ![1, 1, 2048]⟩
abbrev S8x1024x512 : Shape := ⟨3, ![8, 1024, 512]⟩
abbrev S1x1x512 : Shape := ⟨3, ![1, 1, 512]⟩
abbrev S8x1024x1536 : Shape := ⟨3, ![8, 1024, 1536]⟩

abbrev nBuf : Space → Nat
  | .hbm => 198
  | .vmem => 0
  | .smem => 0
  | _ => 0

abbrev hbmTy0_0 (i : Nat) : BufTy := match i % 128 with
  | 0 => ⟨S8x1024x1024, .f32⟩
  | 1 => ⟨S1024, .f32⟩
  | 2 => ⟨S1024x4240, .f32⟩
  | 3 => ⟨S3x1x2176, .f32⟩
  | 4 => ⟨S2176, .f32⟩
  | 5 => ⟨S16, .f32⟩
  | 6 => ⟨S16, .f32⟩
  | 7 => ⟨S16, .f32⟩
  | 8 => ⟨S2048, .f32⟩
  | 9 => ⟨S2048x1024, .f32⟩
  | 10 => ⟨S1024x512, .f32⟩
  | 11 => ⟨S512, .f32⟩
  | 12 => ⟨S1024x1024, .f32⟩
  | 13 => ⟨S1024, .f32⟩
  | 14 => ⟨S8x1024x1024, .f32⟩
  | 15 => ⟨S_, .f32⟩
  | 16 => ⟨S8x1024, .f32⟩
  | 17 => ⟨S8x1024x1, .f32⟩
  | 18 => ⟨S_, .f32⟩
  | 19 => ⟨S8x1024x1, .f32⟩
  | 20 => ⟨S8x1024x1, .f32⟩
  | 21 => ⟨S_, .f32⟩
  | 22 => ⟨S8x1024x1, .f32⟩
  | 23 => ⟨S8x1024x1, .f32⟩
  | 24 => ⟨S8x1024x1, .f32⟩
  | 25 => ⟨S8x1024x1024, .f32⟩
  | 26 => ⟨S8x1024x1024, .f32⟩
  | 27 => ⟨S1x1x1024, .f32⟩
  | 28 => ⟨S8x1024x1024, .f32⟩
  | 29 => ⟨S8x1024x1024, .f32⟩
  | 30 => ⟨S8x1024x4240, .f32⟩
  | 31 => ⟨S8x1024x2048, .f32⟩
  | 32 => ⟨S8x1024x2176, .f32⟩
  | 33 => ⟨S8x1024x16, .f32⟩
  | 34 => ⟨S_, .i32⟩
  | 35 => ⟨S_, .f32⟩
  | 36 => ⟨S8x1026x2176, .f32⟩
  | 37 => ⟨S8x1024x2176, .f32⟩
  | 38 => ⟨S1x1x2176, .f32⟩
  | 39 => ⟨S2176, .f32⟩
  | 40 => ⟨S1x1x2176, .f32⟩
  | 41 => ⟨S8x1024x2176, .f32⟩
  | 42 => ⟨S8x1024x2176, .f32⟩
  | 43 => ⟨S_, .f32⟩
  | 44 => ⟨S8x1024x2176, .f32⟩
  | 45 => ⟨S8x1024x2176, .f32⟩
  | 46 => ⟨S8x1024x2176, .f32⟩
  | 47 => ⟨S1x1x2176, .f32⟩
  | 48 => ⟨S2176, .f32⟩
  | 49 => ⟨S1x1x2176, .f32⟩
  | 50 => ⟨S8x1024x2176, .f32⟩
  | 51 => ⟨S8x1024x2176, .f32⟩
  | 52 => ⟨S8x1024x2176, .f32⟩
  | 53 => ⟨S8x1024x2176, .f32⟩
  | 54 => ⟨S1x1x2176, .f32⟩
  | 55 => ⟨S2176, .f32⟩
  | 56 => ⟨S1x1x2176, .f32⟩
  | 57 => ⟨S8x1024x2176, .f32⟩
  | 58 => ⟨S8x1024x2176, .f32⟩
  | 59 => ⟨S8x1024x2176, .f32⟩
  | 60 => ⟨S1x1x2176, .f32⟩
  | 61 => ⟨S8x1024x2176, .f32⟩
  | 62 => ⟨S8x1024x2176, .f32⟩
  | 63 => ⟨S8x1024x2176, .f32⟩
  | 64 => ⟨S8x1024x2176, .f32⟩
  | 65 => ⟨S_, .f32⟩
  | 66 => ⟨S8x1024x2176, .f32⟩
  | 67 => ⟨S8x1024x2176, .f32⟩
  | 68 => ⟨S_, .f32⟩
  | 69 => ⟨S8x1024x2176, .f32⟩
  | 70 => ⟨S8x1024x2176, .f32⟩
  | 71 => ⟨S8x1024x2176, .f32⟩
  | 72 => ⟨S8x1024x2048, .f32⟩
  | 73 => ⟨S8x1024x64, .f32⟩
  | 74 => ⟨S8x1024x64, .f32⟩
  | 75 => ⟨S1x1x16, .f32⟩
  | 76 => ⟨S8x1024x16, .f32⟩
  | 77 => ⟨S8x1024x16, .f32⟩
  | 78 => ⟨S_, .f32⟩
  | 79 => ⟨S8x1024x16, .f32⟩
  | 80 => ⟨S8x1024x16, .f32⟩
  | 81 => ⟨S8x1024x16, .f32⟩
  | 82 => ⟨S8x1024x16, .f32⟩
  | 83 => ⟨S8x1024x16, .i1⟩
  | 84 => ⟨S8x1024x16, .f32⟩
  | 85 => ⟨S8x1024x16, .f32⟩
  | 86 => ⟨S8x1024x16, .f32⟩
  | 87 => ⟨S8x1024x16, .f32⟩
  | 88 => ⟨S8x1024x16, .f32⟩
  | 89 => ⟨S8x1024x16, .f32⟩
  | 90 => ⟨S8x1024x16, .f32⟩
  | 91 => ⟨S8x1024x16, .f32⟩
  | 92 => ⟨S16, .f32⟩
  | 93 => ⟨S16, .f32⟩
  | 94 => ⟨S8x1024x16x128, .f32⟩
  | 95 => ⟨S1024x8x16, .f32⟩
  | 96 => ⟨S1024x8x64, .f32⟩
  | 97 => ⟨S1024x8x64, .f32⟩
  | 98 => ⟨S1024x8x16x128, .f32⟩
  | 99 => ⟨S_, .f32⟩
  | 100 => ⟨S8x16x128x64, .f32⟩
  | 101 => ⟨S_, .f32⟩
  | 102 => ⟨S1024x8x16x128, .f32⟩
  | 103 => ⟨S_, .i32⟩
  | 104 => ⟨S1024x8x16, .f32⟩
  | 105 => ⟨S1024x8x64, .f32⟩
  | 106 => ⟨S1024x8x64, .f32⟩
  | 107 => ⟨S1024x8x16x128, .f32⟩
  | 108 => ⟨S16, .f32⟩
  | 109 => ⟨S_, .i32⟩
  | 110 => ⟨S8x16x128x64, .f32⟩
  | 111 => ⟨S1024x8x16x128, .f32⟩
  | 112 => ⟨S_, .i32⟩
  | 113 => ⟨S_, .i1⟩
  | 114 => ⟨S_, .i32⟩
  | 115 => ⟨S_, .i32⟩
  | 116 => ⟨S1x8x16, .f32⟩
  | 117 => ⟨S8x16, .f32⟩
  | 118 => ⟨S_, .i32⟩
  | 119 => ⟨S_, .i32⟩
  | 120 => ⟨S1x8x64, .f32⟩
  | 121 => ⟨S8x64, .f32⟩
  | 122 => ⟨S_, .i32⟩
  | 123 => ⟨S_, .i32⟩
  | 124 => ⟨S1x8x64, .f32⟩
  | 125 => ⟨S8x64, .f32⟩
  | 126 => ⟨S_, .i32⟩
  | 127 => ⟨S_, .i32⟩
  | _ => ⟨S8x1024x1024, .f32⟩

abbrev hbmTy0_1 (i : Nat) : BufTy := match i % 128 with
  | 0 => ⟨S_, .i32⟩
  | 1 => ⟨S1x8x16x128, .f32⟩
  | 2 => ⟨S8x16x128, .f32⟩
  | 3 => ⟨S1x16, .f32⟩
  | 4 => ⟨S8x16, .f32⟩
  | 5 => ⟨S8x16, .f32⟩
  | 6 => ⟨S8x16, .f32⟩
  | 7 => ⟨S8x16x1x1, .f32⟩
  | 8 => ⟨S8x16x128x64, .f32⟩
  | 9 => ⟨S8x16x128x64, .f32⟩
  | 10 => ⟨S8x16x1x1, .f32⟩
  | 11 => ⟨S8x16x128x1, .f32⟩
  | 12 => ⟨S8x16x128x1, .f32⟩
  | 13 => ⟨S8x16x128x1, .f32⟩
  | 14 => ⟨S8x1x1x64, .f32⟩
  | 15 => ⟨S8x16x128x64, .f32⟩
  | 16 => ⟨S8x16x128x64, .f32⟩
  | 17 => ⟨S8x16x128x64, .f32⟩
  | 18 => ⟨S8x16x128x64, .f32⟩
  | 19 => ⟨S8x16x128, .f32⟩
  | 20 => ⟨S1x8x16x128, .f32⟩
  | 21 => ⟨S_, .i32⟩
  | 22 => ⟨S_, .i32⟩
  | 23 => ⟨S_, .i32⟩
  | 24 => ⟨S1024x8x16x128, .f32⟩
  | 25 => ⟨S_, .i32⟩
  | 26 => ⟨S_, .i32⟩
  | 27 => ⟨S8x1024x16x128, .f32⟩
  | 28 => ⟨S1x1x16x1, .f32⟩
  | 29 => ⟨S8x1024x16x128, .f32⟩
  | 30 => ⟨S8x1024x16x128, .f32⟩
  | 31 => ⟨S8x1024x16x128, .f32⟩
  | 32 => ⟨S8x1024x2048, .f32⟩
  | 33 => ⟨S8x1024x2048, .f32⟩
  | 34 => ⟨S8x1024x2048, .f32⟩
  | 35 => ⟨S_, .f32⟩
  | 36 => ⟨S8x1024x2048, .f32⟩
  | 37 => ⟨S8x1024x2048, .f32⟩
  | 38 => ⟨S_, .f32⟩
  | 39 => ⟨S8x1024x2048, .f32⟩
  | 40 => ⟨S8x1024x2048, .f32⟩
  | 41 => ⟨S8x1024x2048, .f32⟩
  | 42 => ⟨S8x1024x2048, .f32⟩
  | 43 => ⟨S8x1024x2048, .f32⟩
  | 44 => ⟨S_, .f32⟩
  | 45 => ⟨S8x1024, .f32⟩
  | 46 => ⟨S8x1024x1, .f32⟩
  | 47 => ⟨S_, .f32⟩
  | 48 => ⟨S8x1024x1, .f32⟩
  | 49 => ⟨S8x1024x1, .f32⟩
  | 50 => ⟨S_, .f32⟩
  | 51 => ⟨S8x1024x1, .f32⟩
  | 52 => ⟨S8x1024x1, .f32⟩
  | 53 => ⟨S8x1024x1, .f32⟩
  | 54 => ⟨S8x1024x2048, .f32⟩
  | 55 => ⟨S8x1024x2048, .f32⟩
  | 56 => ⟨S1x1x2048, .f32⟩
  | 57 => ⟨S8x1024x2048, .f32⟩
  | 58 => ⟨S8x1024x2048, .f32⟩
  | 59 => ⟨S8x1024x1024, .f32⟩
  | 60 => ⟨S8x1024x1024, .f32⟩
  | 61 => ⟨S8x1024x512, .f32⟩
  | 62 => ⟨S1x1x512, .f32⟩
  | 63 => ⟨S8x1024x512, .f32⟩
  | 64 => ⟨S8x1024x512, .f32⟩
  | 65 => ⟨S8x1024x1024, .f32⟩
  | 66 => ⟨S1x1x1024, .f32⟩
  | 67 => ⟨S8x1024x1024, .f32⟩
  | 68 => ⟨S8x1024x1024, .f32⟩
  | 69 => ⟨S8x1024x1536, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_3 : Ref sig .tc := ⟨.hbm, 99, rfl⟩
abbrev main_v58 : Ref sig .tc := ⟨.hbm, 100, rfl⟩
abbrev main_cst_4 : Ref sig .tc := ⟨.hbm, 101, rfl⟩
abbrev main_v59 : Ref sig .tc := ⟨.hbm, 102, rfl⟩
abbrev main_c_5 : Ref sig .tc := ⟨.hbm, 103, rfl⟩
abbrev main_v60_0 : Ref sig .tc := ⟨.hbm, 104, rfl⟩
abbrev main_v60_1 : Ref sig .tc := ⟨.hbm, 105, rfl⟩
abbrev main_v60_2 : Ref sig .tc := ⟨.hbm, 106, rfl⟩
abbrev main_v60_3 : Ref sig .tc := ⟨.hbm, 107, rfl⟩
abbrev main_v60_4 : Ref sig .tc := ⟨.hbm, 108, rfl⟩
abbrev main_v60_5 : Ref sig .tc := ⟨.hbm, 109, rfl⟩
abbrev main_v60_6 : Ref sig .tc := ⟨.hbm, 110, rfl⟩
abbrev main_v60_7 : Ref sig .tc := ⟨.hbm, 111, rfl⟩
abbrev main_while0c_c_16 : Ref sig .tc := ⟨.hbm, 112, rfl⟩
abbrev main_while0c_v93 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_v0 : Ref sig .tc := ⟨.hbm, 116, rfl⟩
abbrev main_while0b_v93 : Ref sig .tc := ⟨.hbm, 117, rfl⟩
abbrev main_while0b_call4_c : Ref sig .tc := ⟨.hbm, 118, rfl⟩
abbrev main_while0b_call4_c_0 : Ref sig .tc := ⟨.hbm, 119, rfl⟩
abbrev main_while0b_call4_v0 : Ref sig .tc := ⟨.hbm, 120, rfl⟩
abbrev main_while0b_v94 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_v0 : Ref sig .tc := ⟨.hbm, 124, rfl⟩
abbrev main_while0b_v95 : Ref sig .tc := ⟨.hbm, 125, rfl⟩
abbrev main_while0b_call6_c : Ref sig .tc := ⟨.hbm, 126, rfl⟩
abbrev main_while0b_call6_c_0 : Ref sig .tc := ⟨.hbm, 127, rfl⟩
abbrev main_while0b_call6_c_1 : Ref sig .tc := ⟨.hbm, 128, rfl⟩
abbrev main_while0b_call6_v0 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_v112 : Ref sig .tc := ⟨.hbm, 146, rfl⟩
abbrev main_while0b_v113 : Ref sig .tc := ⟨.hbm, 147, rfl⟩
abbrev main_while0b_call7_v0 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_v114 : Ref sig .tc := ⟨.hbm, 152, rfl⟩
abbrev main_while0b_c_16 : Ref sig .tc := ⟨.hbm, 153, rfl⟩
abbrev main_while0b_v115 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_cst_6 : Ref sig .tc := ⟨.hbm, 172, rfl⟩
abbrev main_v70 : Ref sig .tc := ⟨.hbm, 173, rfl⟩
abbrev main_v71 : Ref sig .tc := ⟨.hbm, 174, rfl⟩
abbrev main_cst_7 : Ref sig .tc := ⟨.hbm, 175, rfl⟩
abbrev main_v72 : Ref sig .tc := ⟨.hbm, 176, rfl⟩
abbrev main_v73 : Ref sig .tc := ⟨.hbm, 177, rfl⟩
abbrev main_cst_8 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩

abbrev nD : Nat := 1
abbrev τ : Topo := Topo.v7x

variable {F : FTy → Type} [FloatOps F]

abbrev main_while0_count : Scf.Loop 32 := ⟨0#32, 1024#32, 1#32⟩
-- ==== Kernel2.lean ====
abbrev S8x1024x1024 : Shape := ⟨3, ![8, 1024, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S_ : Shape := ⟨0, ![]⟩
abbrev S2048x128 : Shape := ⟨2, ![2048, 128]⟩
abbrev S3x2176 : Shape := ⟨2, ![3, 2176]⟩
abbrev S1x2176 : Shape := ⟨2, ![1, 2176]⟩
abbrev S1x16 : Shape := ⟨2, ![1, 16]⟩
abbrev S1x2048 : Shape := ⟨2, ![1, 2048]⟩
abbrev S1x1024 : Shape := ⟨2, ![1, 1024]⟩
abbrev S1x128 : Shape := ⟨2, ![1, 128]⟩
abbrev S1x256x1024 : Shape := ⟨3, ![1, 256, 1024]⟩
abbrev S16x128x128 : Shape := ⟨3, ![16, 128, 128]⟩
abbrev S8x2176 : Shape := ⟨2, ![8, 2176]⟩
abbrev S256x2048 : Shape := ⟨2, ![256, 2048]⟩
abbrev S256x1024 : Shape := ⟨2, ![256, 1024]⟩
abbrev S1024x128 : Shape := ⟨2, ![1024, 128]⟩
abbrev S256x128 : Shape := ⟨2, ![256, 128]⟩
abbrev S256x4240 : Shape := ⟨2, ![256, 4240]⟩
abbrev S256x2176 : Shape := ⟨2, ![256, 2176]⟩
abbrev S256x16 : Shape := ⟨2, ![256, 16]⟩
abbrev S2x2176 : Shape := ⟨2, ![2, 2176]⟩
abbrev S254x2176 : Shape := ⟨2, ![254, 2176]⟩
abbrev S255x2176 : Shape := ⟨2, ![255, 2176]⟩
abbrev S256x64 : Shape := ⟨2, ![256, 64]⟩
abbrev S256x256 : Shape := ⟨2, ![256, 256]⟩
abbrev S255x16 : Shape := ⟨2, ![255, 16]⟩
abbrev S2x16 : Shape := ⟨2, ![2, 16]⟩
abbrev S254x16 : Shape := ⟨2, ![254, 16]⟩
abbrev S4x16 : Shape := ⟨2, ![4, 16]⟩
abbrev S252x16 : Shape := ⟨2, ![252, 16]⟩
abbrev S8x16 : Shape := ⟨2, ![8, 16]⟩
abbrev S248x16 : Shape := ⟨2, ![248, 16]⟩
abbrev S16x16 : Shape := ⟨2, ![16, 16]⟩
abbrev S240x16 : Shape := ⟨2, ![240, 16]⟩
abbrev S32x16 : Shape := ⟨2, ![32, 16]⟩
abbrev S224x16 : Shape := ⟨2, ![224, 16]⟩
abbrev S64x16 : Shape := ⟨2, ![64, 16]⟩
abbrev S192x16 : Shape := ⟨2, ![192, 16]⟩
abbrev S128x16 : Shape := ⟨2, ![128, 16]⟩
abbrev S16x256 : Shape := ⟨2, ![16, 256]⟩
abbrev S256x1 : Shape := ⟨2, ![256, 1]⟩
abbrev S1x1 : Shape := ⟨2, ![1, 1]⟩
abbrev S1x256 : Shape := ⟨2, ![1, 256]⟩
abbrev S1x128x128 : Shape := ⟨3, ![1, 128, 128]⟩
abbrev S128x128 : Shape := ⟨2, ![128, 128]⟩

abbrev nBuf : Space → Nat
  | .hbm => 30
  | .vmem => 21
  | .smem => 0
  | _ => 0

abbrev bufTy : (tb : Table) → Fin (tcTables nBuf tb) → BufTy
  | .hbm, ⟨0, _⟩ => ⟨S8x1024x1024, .f32⟩
  | .hbm, ⟨1, _⟩ => ⟨S1024, .f32⟩
  | .hbm, ⟨2, _⟩ => ⟨S1024x4240, .f32⟩
  | .hbm, ⟨3, _⟩ => ⟨S3x1x2176, .f32⟩
  | .hbm, ⟨4, _⟩ => ⟨S2176, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S2048, .f32⟩
  | .hbm, ⟨9, _⟩ => ⟨S2048x1024, .f32⟩
  | .hbm, ⟨10, _⟩ => ⟨S_, .bf16⟩
  | .hbm, ⟨11, _⟩ => ⟨S2048x128, .bf16⟩
  | .hbm, ⟨12, _⟩ => ⟨S1024x4240, .bf16⟩
  | .hbm, ⟨13, _⟩ => ⟨S2048x1024, .bf16⟩
  | .hbm, ⟨14, _⟩ => ⟨S3x2176, .f32⟩
  | .hbm, ⟨15, _⟩ => ⟨S1x2176, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S1x2048, .f32⟩
  | .hbm, ⟨20, _⟩ => ⟨S1x1024, .f32⟩
  | .hbm, ⟨21, _⟩ => ⟨S_, .bf16⟩
  | .hbm, ⟨22, _⟩ => ⟨S1x128, .bf16⟩
  | .hbm, ⟨23, _⟩ => ⟨S_, .f32⟩
  | .hbm, ⟨24, _⟩ => ⟨S1x128, .f32⟩
  | .hbm, ⟨25, _⟩ => ⟨S_, .bf16⟩
  | .hbm, ⟨26, _⟩ => ⟨S1x128, .bf16⟩
  | .hbm, ⟨27, _⟩ => ⟨S_, .f32⟩
  | .hbm, ⟨28, _⟩ => ⟨S1x128, .f32⟩
  | .hbm, ⟨29, _⟩ => ⟨S8x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x128, .bf16⟩
  | .local _ .vmem, ⟨3, _⟩ => ⟨S1x128, .f32⟩
  | .local _ .vmem, ⟨4, _⟩ => ⟨S1024x4240, .bf16⟩
  | .local _ .vmem, ⟨5, _⟩ => ⟨S3x2176, .f32⟩
  | .local _ .vmem, ⟨6, _⟩ => ⟨S1x2176, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x2048, .f32⟩
  | .local _ .vmem, ⟨11, _⟩ => ⟨S1x1024, .f32⟩
  | .local _ .vmem, ⟨12, _⟩ => ⟨S2048x1024, .bf16⟩
  | .local _ .vmem, ⟨13, _⟩ => ⟨S1x128, .bf16⟩
  | .local _ .vmem, ⟨14, _⟩ => ⟨S1x128, .f32⟩
  | .local _ .vmem, ⟨15, _⟩ => ⟨S2048x128, .bf16⟩
  | .local _ .vmem, ⟨16, _⟩ => ⟨S1x256x1024, .f32⟩
  | .local _ .vmem, ⟨17, _⟩ => ⟨S1x256x1024, .f32⟩
  | .local _ .vmem, ⟨18, _⟩ => ⟨S16x128x128, .f32⟩
  | .local _ .vmem, ⟨19, _⟩ => ⟨S8x2176, .f32⟩
  | .local _ .vmem, ⟨20, _⟩ => ⟨S256x2048, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x1024x1024 : Shape := ⟨3, ![8, 1024, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x4240 : Shape := ⟨3, ![8, 1024, 4240]⟩
abbrev S8x1024x2048 : Shape := ⟨3, ![8, 1024, 2048]⟩
abbrev S8x1024x2176 : Shape := ⟨3, ![8, 1024, 2176]⟩
abbrev S8x1024x16 : Shape := ⟨3, ![8, 1024, 16]⟩
abbrev S8x1026x2176 : Shape := ⟨3, ![8, 1026, 2176]⟩
abbrev S1x1x2176 : Shape := ⟨3, ![1, 1, 2176]⟩
abbrev S8x1024x64 : Shape := ⟨3, ![8, 1024, 64]⟩
abbrev S1x1x16 : Shape := ⟨3, ![1, 1, 16]⟩
abbrev S8x1024x16x128 : Shape := ⟨4, ![8, 1024, 16, 128]⟩
abbrev S1024x8x16 : Shape := ⟨3, ![1024, 8, 16]⟩
abbrev S1024x8x64 : Shape := ⟨3, ![1024, 8, 64]⟩
abbrev S1024x8x16x128 : Shape := ⟨4, ![1024, 8, 16, 128]⟩
abbrev S8x16x128x64 : Shape := ⟨4, ![8, 16, 128, 64]⟩
abbrev S1x8x16 : Shape := ⟨3, ![1, 8, 16]⟩
abbrev S8x16 : Shape := ⟨2, ![8, 16]⟩
abbrev S1x8x64 : Shape := ⟨3, ![1, 8, 64]⟩
abbrev S8x64 : Shape := ⟨2, ![8, 64]⟩
abbrev S1x8x16x128 : Shape := ⟨4, ![1, 8, 16, 128]⟩
abbrev S8x16x128 : Shape := ⟨3, ![8, 16, 128]⟩
abbrev S1x16 : Shape := ⟨2, ![1, 16]⟩
abbrev S8x16x1x1 : Shape := ⟨4, ![8, 16, 1, 1]⟩
abbrev S8x16x128x1 : Shape := ⟨4, ![8, 16, 128, 1]⟩
abbrev S8x1x1x64 : Shape := ⟨4, ![8, 1, 1, 64]⟩
abbrev S1x1x16x1 : Shape := ⟨4, ![1, 1, 16, 1]⟩
abbrev S1x1x2048 : Shape := ⟨3, ![1, 1, 2048]⟩

abbrev nBuf : Space → Nat
  | .hbm => 185
  | .vmem => 0
  | .smem => 0
  | _ => 0

abbrev hbmTy0_0 (i : Nat) : BufTy := match i % 128 with
  | 0 => ⟨S8x1024x1024, .f32⟩
  | 1 => ⟨S1024, .f32⟩
  | 2 => ⟨S1024x4240, .f32⟩
  | 3 => ⟨S3x1x2176, .f32⟩
  | 4 => ⟨S2176, .f32⟩
  | 5 => ⟨S16, .f32⟩
  | 6 => ⟨S16, .f32⟩
  | 7 => ⟨S16, .f32⟩
  | 8 => ⟨S2048, .f32⟩
  | 9 => ⟨S2048x1024, .f32⟩
  | 10 => ⟨S8x1024x1024, .f32⟩
  | 11 => ⟨S_, .f32⟩
  | 12 => ⟨S8x1024, .f32⟩
  | 13 => ⟨S8x1024x1, .f32⟩
  | 14 => ⟨S_, .f32⟩
  | 15 => ⟨S8x1024x1, .f32⟩
  | 16 => ⟨S8x1024x1, .f32⟩
  | 17 => ⟨S_, .f32⟩
  | 18 => ⟨S8x1024x1, .f32⟩
  | 19 => ⟨S8x1024x1, .f32⟩
  | 20 => ⟨S8x1024x1, .f32⟩
  | 21 => ⟨S8x1024x1024, .f32⟩
  | 22 => ⟨S8x1024x1024, .f32⟩
  | 23 => ⟨S1x1x1024, .f32⟩
  | 24 => ⟨S8x1024x1024, .f32⟩
  | 25 => ⟨S8x1024x1024, .f32⟩
  | 26 => ⟨S8x1024x4240, .f32⟩
  | 27 => ⟨S8x1024x2048, .f32⟩
  | 28 => ⟨S8x1024x2176, .f32⟩
  | 29 => ⟨S8x1024x16, .f32⟩
  | 30 => ⟨S_, .i32⟩
  | 31 => ⟨S_, .f32⟩
  | 32 => ⟨S8x1026x2176, .f32⟩
  | 33 => ⟨S8x1024x2176, .f32⟩
  | 34 => ⟨S1x1x2176, .f32⟩
  | 35 => ⟨S2176, .f32⟩
  | 36 => ⟨S1x1x2176, .f32⟩
  | 37 => ⟨S8x1024x2176, .f32⟩
  | 38 => ⟨S8x1024x2176, .f32⟩
  | 39 => ⟨S_, .f32⟩
  | 40 => ⟨S8x1024x2176, .f32⟩
  | 41 => ⟨S8x1024x2176, .f32⟩
  | 42 => ⟨S8x1024x2176, .f32⟩
  | 43 => ⟨S1x1x2176, .f32⟩
  | 44 => ⟨S2176, .f32⟩
  | 45 => ⟨S1x1x2176, .f32⟩
  | 46 => ⟨S8x1024x2176, .f32⟩
  | 47 => ⟨S8x1024x2176, .f32⟩
  | 48 => ⟨S8x1024x2176, .f32⟩
  | 49 => ⟨S8x1024x2176, .f32⟩
  | 50 => ⟨S1x1x2176, .f32⟩
  | 51 => ⟨S2176, .f32⟩
  | 52 => ⟨S1x1x2176, .f32⟩
  | 53 => ⟨S8x1024x2176, .f32⟩
  | 54 => ⟨S8x1024x2176, .f32⟩
  | 55 => ⟨S8x1024x2176, .f32⟩
  | 56 => ⟨S1x1x2176, .f32⟩
  | 57 => ⟨S8x1024x2176, .f32⟩
  | 58 => ⟨S8x1024x2176, .f32⟩
  | 59 => ⟨S8x1024x2176, .f32⟩
  | 60 => ⟨S8x1024x2176, .f32⟩
  | 61 => ⟨S_, .f32⟩
  | 62 => ⟨S8x1024x2176, .f32⟩
  | 63 => ⟨S8x1024x2176, .f32⟩
  | 64 => ⟨S_, .f32⟩
  | 65 => ⟨S8x1024x2176, .f32⟩
  | 66 => ⟨S8x1024x2176, .f32⟩
  | 67 => ⟨S8x1024x2176, .f32⟩
  | 68 => ⟨S8x1024x2048, .f32⟩
  | 69 => ⟨S8x1024x64, .f32⟩
  | 70 => ⟨S8x1024x64, .f32⟩
  | 71 => ⟨S1x1x16, .f32⟩
  | 72 => ⟨S8x1024x16, .f32⟩
  | 73 => ⟨S8x1024x16, .f32⟩
  | 74 => ⟨S_, .f32⟩
  | 75 => ⟨S8x1024x16, .f32⟩
  | 76 => ⟨S8x1024x16, .f32⟩
  | 77 => ⟨S8x1024x16, .f32⟩
  | 78 => ⟨S8x1024x16, .f32⟩
  | 79 => ⟨S8x1024x16, .i1⟩
  | 80 => ⟨S8x1024x16, .f32⟩
  | 81 => ⟨S8x1024x16, .f32⟩
  | 82 => ⟨S8x1024x16, .f32⟩
  | 83 => ⟨S8x1024x16, .f32⟩
  | 84 => ⟨S8x1024x16, .f32⟩
  | 85 => ⟨S8x1024x16, .f32⟩
  | 86 => ⟨S8x1024x16, .f32⟩
  | 87 => ⟨S8x1024x16, .f32⟩
  | 88 => ⟨S16, .f32⟩
  | 89 => ⟨S16, .f32⟩
  | 90 => ⟨S8x1024x16x128, .f32⟩
  | 91 => ⟨S1024x8x16, .f32⟩
  | 92 => ⟨S1024x8x64, .f32⟩
  | 93 => ⟨S1024x8x64, .f32⟩
  | 94 => ⟨S1024x8x16x128, .f32⟩
  | 95 => ⟨S_, .f32⟩
  | 96 => ⟨S8x16x128x64, .f32⟩
  | 97 => ⟨S_, .f32⟩
  | 98 => ⟨S1024x8x16x128, .f32⟩
  | 99 => ⟨S_, .i32⟩
  | 100 => ⟨S1024x8x16, .f32⟩
  | 101 => ⟨S1024x8x64, .f32⟩
  | 102 => ⟨S1024x8x64, .f32⟩
  | 103 => ⟨S1024x8x16x128, .f32⟩
  | 104 => ⟨S16, .f32⟩
  | 105 => ⟨S_, .i32⟩
  | 106 => ⟨S8x16x128x64, .f32⟩
  | 107 => ⟨S1024x8x16x128, .f32⟩
  | 108 => ⟨S_, .i32⟩
  | 109 => ⟨S_, .i1⟩
  | 110 => ⟨S_, .i32⟩
  | 111 => ⟨S_, .i32⟩
  | 112 => ⟨S1x8x16, .f32⟩
  | 113 => ⟨S8x16, .f32⟩
  | 114 => ⟨S_, .i32⟩
  | 115 => ⟨S_, .i32⟩
  | 116 => ⟨S1x8x64, .f32⟩
  | 117 => ⟨S8x64, .f32⟩
  | 118 => ⟨S_, .i32⟩
  | 119 => ⟨S_, .i32⟩
  | 120 => ⟨S1x8x64, .f32⟩
  | 121 => ⟨S8x64, .f32⟩
  | 122 => ⟨S_, .i32⟩
  | 123 => ⟨S_, .i32⟩
  | 124 => ⟨S_, .i32⟩
  | 125 => ⟨S1x8x16x128, .f32⟩
  | 126 => ⟨S8x16x128, .f32⟩
  | 127 => ⟨S1x16, .f32⟩
  | _ => ⟨S8x1024x1024, .f32⟩

abbrev hbmTy0_1 (i : Nat) : BufTy := match i % 128 with
  | 0 => ⟨S8x16, .f32⟩
  | 1 => ⟨S8x16, .f32⟩
  | 2 => ⟨S8x16, .f32⟩
  | 3 => ⟨S8x16x1x1, .f32⟩
  | 4 => ⟨S8x16x128x64, .f32⟩
  | 5 => ⟨S8x16x128x64, .f32⟩
  | 6 => ⟨S8x16x1x1, .f32⟩
  | 7 => ⟨S8x16x128x1, .f32⟩
  | 8 => ⟨S8x16x128x1, .f32⟩
  | 9 => ⟨S8x16x128x1, .f32⟩
  | 10 => ⟨S8x1x1x64, .f32⟩
  | 11 => ⟨S8x16x128x64, .f32⟩
  | 12 => ⟨S8x16x128x64, .f32⟩
  | 13 => ⟨S8x16x128x64, .f32⟩
  | 14 => ⟨S8x16x128x64, .f32⟩
  | 15 => ⟨S8x16x128, .f32⟩
  | 16 => ⟨S1x8x16x128, .f32⟩
  | 17 => ⟨S_, .i32⟩
  | 18 => ⟨S_, .i32⟩
  | 19 => ⟨S_, .i32⟩
  | 20 => ⟨S1024x8x16x128, .f32⟩
  | 21 => ⟨S_, .i32⟩
  | 22 => ⟨S_, .i32⟩
  | 23 => ⟨S8x1024x16x128, .f32⟩
  | 24 => ⟨S1x1x16x1, .f32⟩
  | 25 => ⟨S8x1024x16x128, .f32⟩
  | 26 => ⟨S8x1024x16x128, .f32⟩
  | 27 => ⟨S8x1024x16x128, .f32⟩
  | 28 => ⟨S8x1024x2048, .f32⟩
  | 29 => ⟨S8x1024x2048, .f32⟩
  | 30 => ⟨S8x1024x2048, .f32⟩
  | 31 => ⟨S_, .f32⟩
  | 32 => ⟨S8x1024x2048, .f32⟩
  | 33 => ⟨S8x1024x2048, .f32⟩
  | 34 => ⟨S_, .f32⟩
  | 35 => ⟨S8x1024x2048, .f32⟩
  | 36 => ⟨S8x1024x2048, .f32⟩
  | 37 => ⟨S8x1024x2048, .f32⟩
  | 38 => ⟨S8x1024x2048, .f32⟩
  | 39 => ⟨S8x1024x2048, .f32⟩
  | 40 => ⟨S_, .f32⟩
  | 41 => ⟨S8x1024, .f32⟩
  | 42 => ⟨S8x1024x1, .f32⟩
  | 43 => ⟨S_, .f32⟩
  | 44 => ⟨S8x1024x1, .f32⟩
  | 45 => ⟨S8x1024x1, .f32⟩
  | 46 => ⟨S_, .f32⟩
  | 47 => ⟨S8x1024x1, .f32⟩
  | 48 => ⟨S8x1024x1, .f32⟩
  | 49 => ⟨S8x1024x1, .f32⟩
  | 50 => ⟨S8x1024x2048, .f32⟩
  | 51 => ⟨S8x1024x2048, .f32⟩
  | 52 => ⟨S1x1x2048, .f32⟩
  | 53 => ⟨S8x1024x2048, .f32⟩
  | 54 => ⟨S8x1024x2048, .f32⟩
  | 55 => ⟨S8x1024x1024, .f32⟩
  | 56 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_3 : Ref sig .tc := ⟨.hbm, 95, rfl⟩
abbrev main_v58 : Ref sig .tc := ⟨.hbm, 96, rfl⟩
abbrev main_cst_4 : Ref sig .tc := ⟨.hbm, 97, rfl⟩
abbrev main_v59 : Ref sig .tc := ⟨.hbm, 98, rfl⟩
abbrev main_c_5 : Ref sig .tc := ⟨.hbm, 99, rfl⟩
abbrev main_v60_0 : Ref sig .tc := ⟨.hbm, 100, rfl⟩
abbrev main_v60_1 : Ref sig .tc := ⟨.hbm, 101, rfl⟩
abbrev main_v60_2 : Ref sig .tc := ⟨.hbm, 102, rfl⟩
abbrev main_v60_3 : Ref sig .tc := ⟨.hbm, 103, rfl⟩
abbrev main_v60_4 : Ref sig .tc := ⟨.hbm, 104, rfl⟩
abbrev main_v60_5 : Ref sig .tc := ⟨.hbm, 105, rfl⟩
abbrev main_v60_6 : Ref sig .tc := ⟨.hbm, 106, rfl⟩
abbrev main_v60_7 : Ref sig .tc := ⟨.hbm, 107, rfl⟩
abbrev main_while0c_c_16 : Ref sig .tc := ⟨.hbm, 108, rfl⟩
abbrev main_while0c_v84 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_v0 : Ref sig .tc := ⟨.hbm, 112, rfl⟩
abbrev main_while0b_v84 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_v0 : Ref sig .tc := ⟨.hbm, 116, rfl⟩
abbrev main_while0b_v85 : Ref sig .tc := ⟨.hbm, 117, rfl⟩
abbrev main_while0b_call5_c : Ref sig .tc := ⟨.hbm, 118, rfl⟩
abbrev main_while0b_call5_c_0 : Ref sig .tc := ⟨.hbm, 119, rfl⟩
abbrev main_while0b_call5_v0 : Ref sig .tc := ⟨.hbm, 120, rfl⟩
abbrev main_while0b_v86 : Ref sig .tc := ⟨.hbm, 121, rfl⟩
abbrev main_while0b_call6_c : Ref sig .tc := ⟨.hbm, 122, rfl⟩
abbrev main_while0b_call6_c_0 : Ref sig .tc := ⟨.hbm, 123, rfl⟩
abbrev main_while0b_call6_c_1 : Ref sig .tc := ⟨.hbm, 124, rfl⟩
abbrev main_while0b_call6_v0 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_call7_v0 : Ref sig .tc := ⟨.hbm, 144, rfl⟩
abbrev main_while0b_call7_c : Ref sig .tc := ⟨.hbm, 145, rfl⟩
abbrev main_while0b_call7_c_0 : Ref sig .tc := ⟨.hbm, 146, rfl⟩
abbrev main_while0b_call7_c_1 : Ref sig .tc := ⟨.hbm, 147, rfl⟩
abbrev main_while0b_v105 : Ref sig .tc := ⟨.hbm, 148, rfl⟩
abbrev main_while0b_c_16 : Ref sig .tc := ⟨.hbm, 149, rfl⟩
abbrev main_while0b_v106 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_call8_v0 : Ref sig .tc := ⟨.hbm, 157, rfl⟩
abbrev main_call8_v1 : Ref sig .tc := ⟨.hbm, 158, rfl⟩
abbrev main_call8_cst : Ref sig .tc := ⟨.hbm, 159, rfl⟩
abbrev main_call8_v2 : Ref sig .tc := ⟨.hbm, 160, rfl⟩
abbrev main_call8_v3 : Ref sig .tc := ⟨.hbm, 161, rfl⟩
abbrev main_call8_cst_0 : Ref sig .tc := ⟨.hbm, 162, rfl⟩
abbrev main_call8_v4 : Ref sig .tc := ⟨.hbm, 163, rfl⟩
abbrev main_call8_v5 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_6 : Ref sig .tc := ⟨.hbm, 168, rfl⟩
abbrev main_v70 : Ref sig .tc := ⟨.hbm, 169, rfl⟩
abbrev main_v71 : Ref sig .tc := ⟨.hbm, 170, rfl⟩
abbrev main_cst_7 : Ref sig .tc := ⟨.hbm, 171, rfl⟩
abbrev main_v72 : Ref sig .tc := ⟨.hbm, 172, rfl⟩
abbrev main_v73 : Ref sig .tc := ⟨.hbm, 173, rfl⟩
abbrev main_cst_8 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩

abbrev nD : Nat := 1
abbrev τ : Topo := Topo.v7x

variable {F : FTy → Type} [FloatOps F]

abbrev main_while0_count : Scf.Loop 32 := ⟨0#32, 1024#32, 1#32⟩
-- ==== Kernel3.lean ====
abbrev S8x1024x512 : Shape := ⟨3, ![8, 1024, 512]⟩
abbrev S512x1024 : Shape := ⟨2, ![512, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S_ : Shape := ⟨0, ![]⟩
abbrev S2048x128 : Shape := ⟨2, ![2048, 128]⟩
abbrev S1x1024 : Shape := ⟨2, ![1, 1024]⟩
abbrev S3x2176 : Shape := ⟨2, ![3, 2176]⟩
abbrev S1x2176 : Shape := ⟨2, ![1, 2176]⟩
abbrev S1x16 : Shape := ⟨2, ![1, 16]⟩
abbrev S1x2048 : Shape := ⟨2, ![1, 2048]⟩
abbrev S1x128 : Shape := ⟨2, ![1, 128]⟩
abbrev S8x1024x1024 : Shape := ⟨3, ![8, 1024, 1024]⟩
abbrev S1x256x512 : Shape := ⟨3, ![1, 256, 512]⟩
abbrev S1x256x1024 : Shape := ⟨3, ![1, 256, 1024]⟩
abbrev S16x128x128 : Shape := ⟨3, ![16, 128, 128]⟩
abbrev S8x2176 : Shape := ⟨2, ![8, 2176]⟩
abbrev S256x2048 : Shape := ⟨2, ![256, 2048]⟩
abbrev S256x512 : Shape := ⟨2, ![256, 512]⟩
abbrev S256x1024 : Shape := ⟨2, ![256, 1024]⟩
abbrev S1024x128 : Shape := ⟨2, ![1024, 128]⟩
abbrev S256x128 : Shape := ⟨2, ![256, 128]⟩
abbrev S256x4240 : Shape := ⟨2, ![256, 4240]⟩
abbrev S256x2176 : Shape := ⟨2, ![256, 2176]⟩
abbrev S256x16 : Shape := ⟨2, ![256, 16]⟩
abbrev S2x2176 : Shape := ⟨2, ![2, 2176]⟩
abbrev S254x2176 : Shape := ⟨2, ![254, 2176]⟩
abbrev S255x2176 : Shape := ⟨2, ![255, 2176]⟩
abbrev S256x64 : Shape := ⟨2, ![256, 64]⟩
abbrev S256x256 : Shape := ⟨2, ![256, 256]⟩
abbrev S255x16 : Shape := ⟨2, ![255, 16]⟩
abbrev S2x16 : Shape := ⟨2, ![2, 16]⟩
abbrev S254x16 : Shape := ⟨2, ![254, 16]⟩
abbrev S4x16 : Shape := ⟨2, ![4, 16]⟩
abbrev S252x16 : Shape := ⟨2, ![252, 16]⟩
abbrev S8x16 : Shape := ⟨2, ![8, 16]⟩
abbrev S248x16 : Shape := ⟨2, ![248, 16]⟩
abbrev S16x16 : Shape := ⟨2, ![16, 16]⟩
abbrev S240x16 : Shape := ⟨2, ![240, 16]⟩
abbrev S32x16 : Shape := ⟨2, ![32, 16]⟩
abbrev S224x16 : Shape := ⟨2, ![224, 16]⟩
abbrev S64x16 : Shape := ⟨2, ![64, 16]⟩
abbrev S192x16 : Shape := ⟨2, ![192, 16]⟩
abbrev S128x16 : Shape := ⟨2, ![128, 16]⟩
abbrev S16x256 : Shape := ⟨2, ![16, 256]⟩
abbrev S256x1 : Shape := ⟨2, ![256, 1]⟩
abbrev S1x1 : Shape := ⟨2, ![1, 1]⟩
abbrev S1x256 : Shape := ⟨2, ![1, 256]⟩
abbrev S1x128x128 : Shape := ⟨3, ![1, 128, 128]⟩
abbrev S128x128 : Shape := ⟨2, ![128, 128]⟩

abbrev nBuf : Space → Nat
  | .hbm => 30
  | .vmem => 21
  | .smem => 0
  | _ => 0

abbrev bufTy : (tb : Table) → Fin (tcTables nBuf tb) → BufTy
  | .hbm, ⟨0, _⟩ => ⟨S8x1024x512, .f32⟩
  | .hbm, ⟨1, _⟩ => ⟨S512x1024, .f32⟩
  | .hbm, ⟨2, _⟩ => ⟨S1024, .f32⟩
  | .hbm, ⟨3, _⟩ => ⟨S1024, .f32⟩
  | .hbm, ⟨4, _⟩ => ⟨S1024x4240, .f32⟩
  | .hbm, ⟨5, _⟩ => ⟨S3x1x2176, .f32⟩
  | .hbm, ⟨6, _⟩ => ⟨S2176, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S2048, .f32⟩
  | .hbm, ⟨11, _⟩ => ⟨S2048x1024, .f32⟩
  | .hbm, ⟨12, _⟩ => ⟨S_, .bf16⟩
  | .hbm, ⟨13, _⟩ => ⟨S2048x128, .bf16⟩
  | .hbm, ⟨14, _⟩ => ⟨S512x1024, .bf16⟩
  | .hbm, ⟨15, _⟩ => ⟨S1024x4240, .bf16⟩
  | .hbm, ⟨16, _⟩ => ⟨S2048x1024, .bf16⟩
  | .hbm, ⟨17, _⟩ => ⟨S1x1024, .f32⟩
  | .hbm, ⟨18, _⟩ => ⟨S3x2176, .f32⟩
  | .hbm, ⟨19, _⟩ => ⟨S1x2176, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S1x2048, .f32⟩
  | .hbm, ⟨24, _⟩ => ⟨S1x1024, .f32⟩
  | .hbm, ⟨25, _⟩ => ⟨S_, .bf16⟩
  | .hbm, ⟨26, _⟩ => ⟨S1x128, .bf16⟩
  | .hbm, ⟨27, _⟩ => ⟨S_, .f32⟩
  | .hbm, ⟨28, _⟩ => ⟨S1x128, .f32⟩
  | .hbm, ⟨29, _⟩ => ⟨S8x1024x1024, .f32⟩
  | .local _ .vmem, ⟨0, _⟩ => ⟨S1x256x512, .f32⟩
  | .local _ .vmem, ⟨1, _⟩ => ⟨S1x256x512, .f32⟩
  | .local _ .vmem, ⟨2, _⟩ => ⟨S512x1024, .bf16⟩
  | .local _ .vmem, ⟨3, _⟩ => ⟨S1x1024, .f32⟩
  | .local _ .vmem, ⟨4, _⟩ => ⟨S1024x4240, .bf16⟩
  | .local _ .vmem, ⟨5, _⟩ => ⟨S3x2176, .f32⟩
  | .local _ .vmem, ⟨6, _⟩ => ⟨S1x2176, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x2048, .f32⟩
  | .local _ .vmem, ⟨11, _⟩ => ⟨S1x1024, .f32⟩
  | .local _ .vmem, ⟨12, _⟩ => ⟨S2048x1024, .bf16⟩
  | .local _ .vmem, ⟨13, _⟩ => ⟨S1x128, .bf16⟩
  | .local _ .vmem, ⟨14, _⟩ => ⟨S1x128, .f32⟩
  | .local _ .vmem, ⟨15, _⟩ => ⟨S2048x128, .bf16⟩
  | .local _ .vmem, ⟨16, _⟩ => ⟨S1x256x1024, .f32⟩
  | .local _ .vmem, ⟨17, _⟩ => ⟨S1x256x1024, .f32⟩
  | .local _ .vmem, ⟨18, _⟩ => ⟨S16x128x128, .f32⟩
  | .local _ .vmem, ⟨19, _⟩ => ⟨S8x2176, .f32⟩
  | .local _ .vmem, ⟨20, _⟩ => ⟨S256x2048, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x1024x512 : Shape := ⟨3, ![8, 1024, 512]⟩
abbrev S512x1024 : Shape := ⟨2, ![512, 1024]⟩
abbrev S1024 : Shape := ⟨1, ![1024]⟩
abbrev S1024x4240 : Shape := ⟨2, ![1024, 4240]⟩
abbrev S3x1x2176 : Shape := ⟨3, ![3, 1, 2176]⟩
abbrev S2176 : Shape := ⟨1, ![2176]⟩
abbrev S16 : Shape := ⟨1, ![16]⟩
abbrev S2048 : Shape := ⟨1, ![2048]⟩
abbrev S2048x1024 : Shape := ⟨2, ![2048, 1024]⟩
abbrev S8x1024x1024 : Shape := ⟨3, ![8, 1024, 1024]⟩
abbrev S1x1x1024 : Shape := ⟨3, ![1, 1, 1024]⟩
abbrev S_ : Shape := ⟨0, ![]⟩
abbrev S8x1024 : Shape := ⟨2, ![8, 1024]⟩
abbrev S8x1024x1 : Shape := ⟨3, ![8, 1024, 1]⟩
abbrev S8x1024x4240 : Shape := ⟨3, ![8, 1024, 4240]⟩
abbrev S8x1024x2048 : Shape := ⟨3, ![8, 1024, 2048]⟩
abbrev S8x1024x2176 : Shape := ⟨3, ![8, 1024, 2176]⟩
abbrev S8x1024x16 : Shape := ⟨3, ![8, 1024, 16]⟩
abbrev S8x1026x2176 : Shape := ⟨3, ![8, 1026, 2176]⟩
abbrev S1x1x2176 : Shape := ⟨3, ![1, 1, 2176]⟩
abbrev S8x1024x64 : Shape := ⟨3, ![8, 1024, 64]⟩
abbrev S1x1x16 : Shape := ⟨3, ![1, 1, 16]⟩
abbrev S8x1024x16x128 : Shape := ⟨4, ![8, 1024, 16, 128]⟩
abbrev S1024x8x16 : Shape := ⟨3, ![1024, 8, 16]⟩
abbrev S1024x8x64 : Shape := ⟨3, ![1024, 8, 64]⟩
abbrev S1024x8x16x128 : Shape := ⟨4, ![1024, 8, 16, 128]⟩
abbrev S8x16x128x64 : Shape := ⟨4, ![8, 16, 128, 64]⟩
abbrev S1x8x16 : Shape := ⟨3, ![1, 8, 16]⟩
abbrev S8x16 : Shape := ⟨2, ![8, 16]⟩
abbrev S1x8x64 : Shape := ⟨3, ![1, 8, 64]⟩
abbrev S8x64 : Shape := ⟨2, ![8, 64]⟩
abbrev S1x8x16x128 : Shape := ⟨4, ![1, 8, 16, 128]⟩
abbrev S8x16x128 : Shape := ⟨3, ![8, 16, 128]⟩
abbrev S1x16 : Shape := ⟨2, ![1, 16]⟩
abbrev S8x16x1x1 : Shape := ⟨4, ![8, 16, 1, 1]⟩
abbrev S8x16x128x1 : Shape := ⟨4, ![8, 16, 128, 1]⟩
abbrev S8x1x1x64 : Shape := ⟨4, ![8, 1, 1, 64]⟩
abbrev S1x1x16x1 : Shape := ⟨4, ![1, 1, 16, 1]⟩
abbrev S1x1x2048 : Shape := ⟨3, ![1, 1, 2048]⟩

abbrev nBuf : Space → Nat
  | .hbm => 191
  | .vmem => 0
  | .smem => 0
  | _ => 0

abbrev hbmTy0_0 (i : Nat) : BufTy := match i % 128 with
  | 0 => ⟨S8x1024x512, .f32⟩
  | 1 => ⟨S512x1024, .f32⟩
  | 2 => ⟨S1024, .f32⟩
  | 3 => ⟨S1024, .f32⟩
  | 4 => ⟨S1024x4240, .f32⟩
  | 5 => ⟨S3x1x2176, .f32⟩
  | 6 => ⟨S2176, .f32⟩
  | 7 => ⟨S16, .f32⟩
  | 8 => ⟨S16, .f32⟩
  | 9 => ⟨S16, .f32⟩
  | 10 => ⟨S2048, .f32⟩
  | 11 => ⟨S2048x1024, .f32⟩
  | 12 => ⟨S8x1024x1024, .f32⟩
  | 13 => ⟨S1x1x1024, .f32⟩
  | 14 => ⟨S8x1024x1024, .f32⟩
  | 15 => ⟨S8x1024x1024, .f32⟩
  | 16 => ⟨S8x1024x1024, .f32⟩
  | 17 => ⟨S_, .f32⟩
  | 18 => ⟨S8x1024, .f32⟩
  | 19 => ⟨S8x1024x1, .f32⟩
  | 20 => ⟨S_, .f32⟩
  | 21 => ⟨S8x1024x1, .f32⟩
  | 22 => ⟨S8x1024x1, .f32⟩
  | 23 => ⟨S_, .f32⟩
  | 24 => ⟨S8x1024x1, .f32⟩
  | 25 => ⟨S8x1024x1, .f32⟩
  | 26 => ⟨S8x1024x1, .f32⟩
  | 27 => ⟨S8x1024x1024, .f32⟩
  | 28 => ⟨S8x1024x1024, .f32⟩
  | 29 => ⟨S1x1x1024, .f32⟩
  | 30 => ⟨S8x1024x1024, .f32⟩
  | 31 => ⟨S8x1024x1024, .f32⟩
  | 32 => ⟨S8x1024x4240, .f32⟩
  | 33 => ⟨S8x1024x2048, .f32⟩
  | 34 => ⟨S8x1024x2176, .f32⟩
  | 35 => ⟨S8x1024x16, .f32⟩
  | 36 => ⟨S_, .i32⟩
  | 37 => ⟨S_, .f32⟩
  | 38 => ⟨S8x1026x2176, .f32⟩
  | 39 => ⟨S8x1024x2176, .f32⟩
  | 40 => ⟨S1x1x2176, .f32⟩
  | 41 => ⟨S2176, .f32⟩
  | 42 => ⟨S1x1x2176, .f32⟩
  | 43 => ⟨S8x1024x2176, .f32⟩
  | 44 => ⟨S8x1024x2176, .f32⟩
  | 45 => ⟨S_, .f32⟩
  | 46 => ⟨S8x1024x2176, .f32⟩
  | 47 => ⟨S8x1024x2176, .f32⟩
  | 48 => ⟨S8x1024x2176, .f32⟩
  | 49 => ⟨S1x1x2176, .f32⟩
  | 50 => ⟨S2176, .f32⟩
  | 51 => ⟨S1x1x2176, .f32⟩
  | 52 => ⟨S8x1024x2176, .f32⟩
  | 53 => ⟨S8x1024x2176, .f32⟩
  | 54 => ⟨S8x1024x2176, .f32⟩
  | 55 => ⟨S8x1024x2176, .f32⟩
  | 56 => ⟨S1x1x2176, .f32⟩
  | 57 => ⟨S2176, .f32⟩
  | 58 => ⟨S1x1x2176, .f32⟩
  | 59 => ⟨S8x1024x2176, .f32⟩
  | 60 => ⟨S8x1024x2176, .f32⟩
  | 61 => ⟨S8x1024x2176, .f32⟩
  | 62 => ⟨S1x1x2176, .f32⟩
  | 63 => ⟨S8x1024x2176, .f32⟩
  | 64 => ⟨S8x1024x2176, .f32⟩
  | 65 => ⟨S8x1024x2176, .f32⟩
  | 66 => ⟨S8x1024x2176, .f32⟩
  | 67 => ⟨S_, .f32⟩
  | 68 => ⟨S8x1024x2176, .f32⟩
  | 69 => ⟨S8x1024x2176, .f32⟩
  | 70 => ⟨S_, .f32⟩
  | 71 => ⟨S8x1024x2176, .f32⟩
  | 72 => ⟨S8x1024x2176, .f32⟩
  | 73 => ⟨S8x1024x2176, .f32⟩
  | 74 => ⟨S8x1024x2048, .f32⟩
  | 75 => ⟨S8x1024x64, .f32⟩
  | 76 => ⟨S8x1024x64, .f32⟩
  | 77 => ⟨S1x1x16, .f32⟩
  | 78 => ⟨S8x1024x16, .f32⟩
  | 79 => ⟨S8x1024x16, .f32⟩
  | 80 => ⟨S_, .f32⟩
  | 81 => ⟨S8x1024x16, .f32⟩
  | 82 => ⟨S8x1024x16, .f32⟩
  | 83 => ⟨S8x1024x16, .f32⟩
  | 84 => ⟨S8x1024x16, .f32⟩
  | 85 => ⟨S8x1024x16, .i1⟩
  | 86 => ⟨S8x1024x16, .f32⟩
  | 87 => ⟨S8x1024x16, .f32⟩
  | 88 => ⟨S8x1024x16, .f32⟩
  | 89 => ⟨S8x1024x16, .f32⟩
  | 90 => ⟨S8x1024x16, .f32⟩
  | 91 => ⟨S8x1024x16, .f32⟩
  | 92 => ⟨S8x1024x16, .f32⟩
  | 93 => ⟨S8x1024x16, .f32⟩
  | 94 => ⟨S16, .f32⟩
  | 95 => ⟨S16, .f32⟩
  | 96 => ⟨S8x1024x16x128, .f32⟩
  | 97 => ⟨S1024x8x16, .f32⟩
  | 98 => ⟨S1024x8x64, .f32⟩
  | 99 => ⟨S1024x8x64, .f32⟩
  | 100 => ⟨S1024x8x16x128, .f32⟩
  | 101 => ⟨S_, .f32⟩
  | 102 => ⟨S8x16x128x64, .f32⟩
  | 103 => ⟨S_, .f32⟩
  | 104 => ⟨S1024x8x16x128, .f32⟩
  | 105 => ⟨S_, .i32⟩
  | 106 => ⟨S1024x8x16, .f32⟩
  | 107 => ⟨S1024x8x64, .f32⟩
  | 108 => ⟨S1024x8x64, .f32⟩
  | 109 => ⟨S1024x8x16x128, .f32⟩
  | 110 => ⟨S16, .f32⟩
  | 111 => ⟨S_, .i32⟩
  | 112 => ⟨S8x16x128x64, .f32⟩
  | 113 => ⟨S1024x8x16x128, .f32⟩
  | 114 => ⟨S_, .i32⟩
  | 115 => ⟨S_, .i1⟩
  | 116 => ⟨S_, .i32⟩
  | 117 => ⟨S_, .i32⟩
  | 118 => ⟨S1x8x16, .f32⟩
  | 119 => ⟨S8x16, .f32⟩
  | 120 => ⟨S_, .i32⟩
  | 121 => ⟨S_, .i32⟩
  | 122 => ⟨S1x8x64, .f32⟩
  | 123 => ⟨S8x64, .f32⟩
  | 124 => ⟨S_, .i32⟩
  | 125 => ⟨S_, .i32⟩
  | 126 => ⟨S1x8x64, .f32⟩
  | 127 => ⟨S8x64, .f32⟩
  | _ => ⟨S8x1024x512, .f32⟩

abbrev hbmTy0_1 (i : Nat) : BufTy := match i % 128 with
  | 0 => ⟨S_, .i32⟩
  | 1 => ⟨S_, .i32⟩
  | 2 => ⟨S_, .i32⟩
  | 3 => ⟨S1x8x16x128, .f32⟩
  | 4 => ⟨S8x16x128, .f32⟩
  | 5 => ⟨S1x16, .f32⟩
  | 6 => ⟨S8x16, .f32⟩
  | 7 => ⟨S8x16, .f32⟩
  | 8 => ⟨S8x16, .f32⟩
  | 9 => ⟨S8x16x1x1, .f32⟩
  | 10 => ⟨S8x16x128x64, .f32⟩
  | 11 => ⟨S8x16x128x64, .f32⟩
  | 12 => ⟨S8x16x1x1, .f32⟩
  | 13 => ⟨S8x16x128x1, .f32⟩
  | 14 => ⟨S8x16x128x1, .f32⟩
  | 15 => ⟨S8x16x128x1, .f32⟩
  | 16 => ⟨S8x1x1x64, .f32⟩
  | 17 => ⟨S8x16x128x64, .f32⟩
  | 18 => ⟨S8x16x128x64, .f32⟩
  | 19 => ⟨S8x16x128x64, .f32⟩
  | 20 => ⟨S8x16x128x64, .f32⟩
  | 21 => ⟨S8x16x128, .f32⟩
  | 22 => ⟨S1x8x16x128, .f32⟩
  | 23 => ⟨S_, .i32⟩
  | 24 => ⟨S_, .i32⟩
  | 25 => ⟨S_, .i32⟩
  | 26 => ⟨S1024x8x16x128, .f32⟩
  | 27 => ⟨S_, .i32⟩
  | 28 => ⟨S_, .i32⟩
  | 29 => ⟨S8x1024x16x128, .f32⟩
  | 30 => ⟨S1x1x16x1, .f32⟩
  | 31 => ⟨S8x1024x16x128, .f32⟩
  | 32 => ⟨S8x1024x16x128, .f32⟩
  | 33 => ⟨S8x1024x16x128, .f32⟩
  | 34 => ⟨S8x1024x2048, .f32⟩
  | 35 => ⟨S8x1024x2048, .f32⟩
  | 36 => ⟨S8x1024x2048, .f32⟩
  | 37 => ⟨S_, .f32⟩
  | 38 => ⟨S8x1024x2048, .f32⟩
  | 39 => ⟨S8x1024x2048, .f32⟩
  | 40 => ⟨S_, .f32⟩
  | 41 => ⟨S8x1024x2048, .f32⟩
  | 42 => ⟨S8x1024x2048, .f32⟩
  | 43 => ⟨S8x1024x2048, .f32⟩
  | 44 => ⟨S8x1024x2048, .f32⟩
  | 45 => ⟨S8x1024x2048, .f32⟩
  | 46 => ⟨S_, .f32⟩
  | 47 => ⟨S8x1024, .f32⟩
  | 48 => ⟨S8x1024x1, .f32⟩
  | 49 => ⟨S_, .f32⟩
  | 50 => ⟨S8x1024x1, .f32⟩
  | 51 => ⟨S8x1024x1, .f32⟩
  | 52 => ⟨S_, .f32⟩
  | 53 => ⟨S8x1024x1, .f32⟩
  | 54 => ⟨S8x1024x1, .f32⟩
  | 55 => ⟨S8x1024x1, .f32⟩
  | 56 => ⟨S8x1024x2048, .f32⟩
  | 57 => ⟨S8x1024x2048, .f32⟩
  | 58 => ⟨S1x1x2048, .f32⟩
  | 59 => ⟨S8x1024x2048, .f32⟩
  | 60 => ⟨S8x1024x2048, .f32⟩
  | 61 => ⟨S8x1024x1024, .f32⟩
  | 62 => ⟨S8x1024x1024, .f32⟩
  | _ => ⟨S8x1024x512, .f32⟩

abbrev hbmTy (i : Nat) : BufTy := match i / 128 with
  | 0 => hbmTy0_0 i
  | 1 => hbmTy0_1 i
  | _ => ⟨S8x1024x512, .f32⟩

abbrev bufTy : (tb : Table) → Fin (tcTables nBuf tb) → BufTy
  | .hbm, ⟨i, _⟩ => hbmTy i
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_call0_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_3 : Ref sig .tc := ⟨.hbm, 101, rfl⟩
abbrev main_v62 : Ref sig .tc := ⟨.hbm, 102, rfl⟩
abbrev main_cst_4 : Ref sig .tc := ⟨.hbm, 103, rfl⟩
abbrev main_v63 : Ref sig .tc := ⟨.hbm, 104, rfl⟩
abbrev main_c_5 : Ref sig .tc := ⟨.hbm, 105, rfl⟩
abbrev main_v64_0 : Ref sig .tc := ⟨.hbm, 106, rfl⟩
abbrev main_v64_1 : Ref sig .tc := ⟨.hbm, 107, rfl⟩
abbrev main_v64_2 : Ref sig .tc := ⟨.hbm, 108, rfl⟩
abbrev main_v64_3 : Ref sig .tc := ⟨.hbm, 109, rfl⟩
abbrev main_v64_4 : Ref sig .tc := ⟨.hbm, 110, rfl⟩
abbrev main_v64_5 : Ref sig .tc := ⟨.hbm, 111, rfl⟩
abbrev main_v64_6 : Ref sig .tc := ⟨.hbm, 112, rfl⟩
abbrev main_v64_7 : Ref sig .tc := ⟨.hbm, 113, rfl⟩
abbrev main_while0c_c_16 : Ref sig .tc := ⟨.hbm, 114, rfl⟩
abbrev main_while0c_v88 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_v0 : Ref sig .tc := ⟨.hbm, 118, rfl⟩
abbrev main_while0b_v88 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_v0 : Ref sig .tc := ⟨.hbm, 122, rfl⟩
abbrev main_while0b_v89 : Ref sig .tc := ⟨.hbm, 123, rfl⟩
abbrev main_while0b_call5_c : Ref sig .tc := ⟨.hbm, 124, rfl⟩
abbrev main_while0b_call5_c_0 : Ref sig .tc := ⟨.hbm, 125, rfl⟩
abbrev main_while0b_call5_v0 : Ref sig .tc := ⟨.hbm, 126, rfl⟩
abbrev main_while0b_v90 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_call6_v0 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_v95 : Ref sig .tc := ⟨.hbm, 136, rfl⟩
abbrev main_while0b_v96 : Ref sig .tc := ⟨.hbm, 137, rfl⟩
abbrev main_while0b_v97 : Ref sig .tc := ⟨.hbm, 138, rfl⟩
abbrev main_while0b_v98 : Ref sig .tc := ⟨.hbm, 139, rfl⟩
abbrev main_while0b_v99 : Ref sig .tc := ⟨.hbm, 140, rfl⟩
abbrev main_while0b_v100 : Ref sig .tc := ⟨.hbm, 141, rfl⟩
abbrev main_while0b_v101 : Ref sig .tc := ⟨.hbm, 142, rfl⟩
abbrev main_while0b_v102 : Ref sig .tc := ⟨.hbm, 143, rfl⟩
abbrev main_while0b_v103 : Ref sig .tc := ⟨.hbm, 144, rfl⟩
abbrev main_while0b_v104 : Ref sig .tc := ⟨.hbm, 145, rfl⟩
abbrev main_while0b_v105 : Ref sig .tc := ⟨.hbm, 146, rfl⟩
abbrev main_while0b_v106 : Ref sig .tc := ⟨.hbm, 147, rfl⟩
abbrev main_while0b_v107 : Ref sig .tc := ⟨.hbm, 148, rfl⟩
abbrev main_while0b_v108 : Ref sig .tc := ⟨.hbm, 149, rfl⟩
abbrev main_while0b_call7_v0 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_call7_c_1 : Ref sig .tc := ⟨.hbm, 153, rfl⟩
abbrev main_while0b_v109 : Ref sig .tc := ⟨.hbm, 154, rfl⟩
abbrev main_while0b_c_16 : Ref sig .tc := ⟨.hbm, 155, rfl⟩
abbrev main_while0b_v110 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_call8_v0 : Ref sig .tc := ⟨.hbm, 163, rfl⟩
abbrev main_call8_v1 : Ref sig .tc := ⟨.hbm, 164, rfl⟩
abbrev main_call8_cst : Ref sig .tc := ⟨.hbm, 165, rfl⟩
abbrev main_call8_v2 : Ref sig .tc := ⟨.hbm, 166, rfl⟩
abbrev main_call8_v3 : Ref sig .tc := ⟨.hbm, 167, rfl⟩
abbrev main_call8_cst_0 : Ref sig .tc := ⟨.hbm, 168, rfl⟩
abbrev main_call8_v4 : Ref sig .tc := ⟨.hbm, 169, rfl⟩
abbrev main_call8_v5 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_cst_6 : Ref sig .tc := ⟨.hbm, 174, rfl⟩
abbrev main_v74 : Ref sig .tc := ⟨.hbm, 175, rfl⟩
abbrev main_v75 : Ref sig .tc := ⟨.hbm, 176, rfl⟩
abbrev main_cst_7 : Ref sig .tc := ⟨.hbm, 177, rfl⟩
abbrev main_v76 : Ref sig .tc := ⟨.hbm, 178, rfl⟩
abbrev main_v77 : Ref sig .tc := ⟨.hbm, 179, rfl⟩
abbrev main_cst_8 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩

abbrev nD : Nat := 1
abbrev τ : Topo := Topo.v7x

variable {F : FTy → Type} [FloatOps F]

abbrev main_while0_count : Scf.Loop 32 := ⟨0#32, 1024#32, 1#32⟩
-- ==== Proof.Scan.lean ====
/-
  The selective scan, cut into chunks: over the reals, the state that the recurrence reaches after a chunk and the value it reads at each step
  of the chunk, in the closed form with running sums and their exponentials; and the running sums themselves, computed by doubling.
  Nothing here speaks of a program.
-/
module

public import Idealize.ShloMosaic.PureOps.Ideal.Laws
public import Idealize.ShloMosaic.Lib.Pipeline.ValueKit

@[expose] public section

noncomputable section

namespace Mamba

open Finset Idealize.ShloMosaic

/-! ## Running sums by doubling -/

section Doubling

variable {M : Type} [AddCommMonoid M]

/-- The sum of the last `w` terms that end at `i` (of all of them, where there are fewer). -/
def window (al : ℕ → M) (w i : ℕ) : M := ∑ j ∈ range (min (i + 1) w), al (i - j)

theorem window_one (al : ℕ → M) (i : ℕ) : window al 1 i = al i := by
  simp [window]

/-- One step of doubling: the window ending at `i` and the one ending `w` before it. -/
theorem window_double (al : ℕ → M) (w i : ℕ) :
    window al w i + (if i < w then 0 else window al w (i - w)) = window al (2 * w) i := by
  unfold window
  split
  · rw [add_zero, min_eq_left (by omega), min_eq_left (by omega)]
  · rename_i h
    have h1 : min (i + 1) w = w := by omega
    have h2 : min (i + 1) (2 * w) = w + min (i - w + 1) w := by omega
    rw [h1, h2, sum_range_add]
    congr 1
    refine sum_congr rfl fun j hj => ?_
    rw [Nat.sub_sub]

/-- A window longer than what precedes is the whole running sum. -/
theorem window_full (al : ℕ → M) (w i : ℕ) (h : i < w) : window al w i = ∑ j ∈ range (i + 1), al j := by
  unfold window
  rw [min_eq_left (by omega), ← sum_range_reflect]
  refine sum_congr rfl fun j hj => ?_
  have := mem_range.mp hj
  congr 1
  omega

end Doubling

/-! ## The recurrence over the reals -/

/-- The state after `t` steps: decay by `exp (dt · a)`, then the step's input times its key. -/
def stateR (a : ℝ) (dt x B : ℕ → ℝ) : ℕ → ℝ
  | 0 => 0
  | t + 1 => stateR a dt x B t * Real.exp (dt t * a) + dt t * x t * B t

/-- The running sum of the log-decays over the first `m` steps from `t0`. -/
def cumR (a : ℝ) (dt : ℕ → ℝ) (t0 m : ℕ) : ℝ := ∑ j ∈ range m, dt (t0 + j) * a

/-- The state `m` steps after `t0`, in closed form. -/
theorem stateR_chunk (a : ℝ) (dt x B : ℕ → ℝ) (t0 m : ℕ) :
    stateR a dt x B (t0 + m) = Real.exp (cumR a dt t0 m)
      * (stateR a dt x B t0 + ∑ j ∈ range m, Real.exp (0 - cumR a dt t0 (j + 1)) * (dt (t0 + j) * x (t0 + j) * B (t0 + j))) := by
  induction m with
  | zero => simp [cumR]
  | succ m ih =>
    have hc : cumR a dt t0 (m + 1) = cumR a dt t0 m + dt (t0 + m) * a := sum_range_succ _ _
    rw [← add_assoc, stateR, ih, sum_range_succ, ← add_assoc, mul_add (Real.exp (cumR a dt t0 (m + 1)))]
    congr 1
    · rw [hc, Real.exp_add]
      ring
    · rw [← mul_assoc, ← Real.exp_add, add_sub_cancel, Real.exp_zero, one_mul]

/-- A chunk's end state as the kernel forms it: the entry state decayed over the chunk, plus each step's input decayed to the chunk's end. -/
theorem stateR_end (a : ℝ) (dt x B : ℕ → ℝ) (t0 L : ℕ) :
    stateR a dt x B t0 * Real.exp (cumR a dt t0 L)
      + ∑ j : Fin L, B (t0 + j) * (x (t0 + j) * (Real.exp (0 - cumR a dt t0 (j + 1)) * Real.exp (cumR a dt t0 L) * dt (t0 + j)))
      = stateR a dt x B (t0 + L) := by
  rw [stateR_chunk, mul_add, mul_sum, mul_comm, ← Fin.sum_univ_eq_sum_range
    (fun j => Real.exp (cumR a dt t0 L) * (Real.exp (0 - cumR a dt t0 (j + 1)) * (dt (t0 + j) * x (t0 + j) * B (t0 + j))))]
  congr 1
  exact sum_congr rfl fun j _ => by ring

/-- What the recurrence reads at step `i` of a chunk, as the kernel forms it: the causal part of `C Bᵀ` against the chunk's inputs, plus the
    query against the entry state, all decayed from the chunk's start. -/
theorem readR_chunk {ι : Type} [Fintype ι] (a : ℝ) (dt x : ℕ → ℝ) (B C : ℕ → ι → ℝ) (t0 L : ℕ) (i : Fin L) :
    Real.exp (cumR a dt t0 (i + 1))
      * (∑ j : Fin L, (if (j : ℕ) ≤ i then (∑ n, C (t0 + i) n * B (t0 + j) n) * Real.exp (0 - cumR a dt t0 (j + 1)) * (x (t0 + j) * dt (t0 + j)) else 0)
        + ∑ n, C (t0 + i) n * stateR a dt x (fun t => B t n) t0)
      = ∑ n, stateR a dt x (fun t => B t n) (t0 + i + 1) * C (t0 + i) n := by
  have hcut : ∀ f : ℕ → ℝ, ∑ j : Fin L, (if (j : ℕ) ≤ i then f j else 0) = ∑ j ∈ range (i + 1), f j := by
    intro f
    rw [Fin.sum_univ_eq_sum_range (fun j => if j ≤ (i : ℕ) then f j else 0), ← sum_filter]
    refine sum_congr ?_ fun _ _ => rfl
    ext j
    simp only [mem_filter, mem_range]
    have := i.isLt
    omega
  rw [hcut (fun j => (∑ n, C (t0 + i) n * B (t0 + j) n) * Real.exp (0 - cumR a dt t0 (j + 1)) * (x (t0 + j) * dt (t0 + j)))]
  simp only [sum_mul]
  rw [sum_comm, ← sum_add_distrib, mul_sum]
  refine sum_congr rfl fun n _ => ?_
  rw [add_assoc, stateR_chunk, mul_assoc, add_mul, sum_mul]
  congr 1
  refine (add_comm _ _).trans ?_
  congr 1
  · ring
  · exact sum_congr rfl fun j _ => by ring

/-! ## The same over the extended reals, at real inputs -/

/-- The extended real is a real number. -/
def IsReal (x : EReal) : Prop := ∃ r : ℝ, x = r

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

namespace IsReal

variable {x y : EReal}

theorem coe (r : ℝ) : IsReal r := ⟨r, rfl⟩
theorem zero : IsReal 0 := ⟨0, rfl⟩
theorem add (hx : IsReal x) (hy : IsReal y) : IsReal (x + y) := by
  obtain ⟨r, rfl⟩ := hx; obtain ⟨q, rfl⟩ := hy; exact ⟨r + q, (EReal.coe_add r q).symm⟩
theorem mul (hx : IsReal x) (hy : IsReal y) : IsReal (x * y) := by
  obtain ⟨r, rfl⟩ := hx; obtain ⟨q, rfl⟩ := hy; exact ⟨r * q, (EReal.coe_mul r q).symm⟩
theorem neg (hx : IsReal x) : IsReal (-x) := by
  obtain ⟨r, rfl⟩ := hx; exact ⟨-r, (EReal.coe_neg r).symm⟩
theorem sub (hx : IsReal x) (hy : IsReal y) : IsReal (x - y) := by
  obtain ⟨r, rfl⟩ := hx; obtain ⟨q, rfl⟩ := hy; exact ⟨r - q, (EReal.coe_sub r q).symm⟩
theorem max (hx : IsReal x) (hy : IsReal y) : IsReal (max x y) := by
  rcases max_choice x y with h | h <;> rw [h] <;> assumption
theorem sum {ι : Type} (s : Finset ι) {f : ι → EReal} (h : ∀ i ∈ s, IsReal (f i)) : IsReal (∑ i ∈ s, f i) := by
  classical
  induction s using Finset.induction_on with
  | empty => simpa using zero
  | insert a s ha ih =>
    rw [sum_insert ha]
    exact (h a (mem_insert_self a s)).add (ih fun i hi => h i (mem_insert_of_mem hi))
theorem ite {p : Prop} [Decidable p] (hx : IsReal x) (hy : IsReal y) : IsReal (if p then x else y) := by
  split <;> assumption
theorem exp (hx : IsReal x) : IsReal (Ideal.exp x) := by
  obtain ⟨r, rfl⟩ := hx; exact ⟨Real.exp r, rfl⟩
theorem exp_pos (hx : IsReal x) : ∃ r : ℝ, 0 < r ∧ Ideal.exp x = r := by
  obtain ⟨r, rfl⟩ := hx; exact ⟨Real.exp r, Real.exp_pos r, rfl⟩
theorem logistic (hx : IsReal x) : IsReal (Ideal.logistic x) := by
  obtain ⟨e, he, h⟩ := hx.neg.exp_pos
  unfold Ideal.logistic Ideal.div
  rw [h, if_neg (by exact_mod_cast (by positivity : (1 : ℝ) + e ≠ 0))]
  exact ⟨1 * (1 + e)⁻¹, by push_cast [EReal.coe_inv]; rfl⟩
theorem log1p_exp (hx : IsReal x) : IsReal (Ideal.log1p (Ideal.exp x)) := by
  obtain ⟨e, he, h⟩ := hx.exp_pos
  unfold Ideal.log1p
  rw [h]
  have : (1 : EReal) + e = ((1 + e : ℝ) : EReal) := by push_cast; rfl
  rw [this, Ideal.log_coe, if_neg (by linarith)]
  exact ⟨_, rfl⟩
theorem rsqrt_of_pos {r : ℝ} (h : 0 < r) : IsReal (Ideal.rsqrt r) := by
  rw [Ideal.rsqrt_coe, if_neg (by linarith), if_neg h.ne']
  exact ⟨_, rfl⟩

end IsReal

/-- The state after `t` steps, over the extended reals. -/
def stateE (a : EReal) (dt x B : ℕ → EReal) : ℕ → EReal
  | 0 => 0
  | t + 1 => stateE a dt x B t * Ideal.exp (dt t * a) + dt t * x t * B t

theorem stateE_coe (a : ℝ) (dt x B : ℕ → ℝ) (t : ℕ) :
    stateE a (fun t => dt t) (fun t => x t) (fun t => B t) t = (stateR a dt x B t : EReal) := by
  induction t with
  | zero => rfl
  | succ t ih =>
    rw [stateE, ih, stateR]
    simp only [← EReal.coe_mul, Ideal.exp_coe, ← EReal.coe_add]

/-- The running sum of the log-decays. -/
def cumE (a : EReal) (dt : ℕ → EReal) (t0 m : ℕ) : EReal := ∑ j ∈ range m, dt (t0 + j) * a

theorem cumE_coe (a : ℝ) (dt : ℕ → ℝ) (t0 m : ℕ) : cumE a (fun t => dt t) t0 m = (cumR a dt t0 m : EReal) := by
  simp only [cumE, cumR, ← EReal.coe_mul, coe_sum]

/-- `stateR_end` at real inputs. -/
theorem stateE_end {a : EReal} {dt x B : ℕ → EReal} (ha : IsReal a) (hdt : ∀ t, IsReal (dt t)) (hx : ∀ t, IsReal (x t))
    (hB : ∀ t, IsReal (B t)) (t0 L : ℕ) :
    stateE a dt x B t0 * Ideal.exp (cumE a dt t0 L)
      + ∑ j : Fin L, B (t0 + j) * (x (t0 + j) * (Ideal.exp (0 - cumE a dt t0 (j + 1)) * Ideal.exp (cumE a dt t0 L) * dt (t0 + j)))
      = stateE a dt x B (t0 + L) := by
  obtain ⟨a, rfl⟩ := ha
  choose dt' hdt using hdt
  choose x' hx using hx
  choose B' hB using hB
  obtain rfl : dt = fun t => ↑(dt' t) := funext hdt
  obtain rfl : x = fun t => ↑(x' t) := funext hx
  obtain rfl : B = fun t => ↑(B' t) := funext hB
  simp only [stateE_coe, cumE_coe, ← EReal.coe_zero, ← EReal.coe_sub, Ideal.exp_coe, ← EReal.coe_mul, coe_sum, ← EReal.coe_add]
  rw [stateR_end]

/-- `readR_chunk` at real inputs. -/
theorem readE_chunk {ι : Type} [Fintype ι] {a : EReal} {dt x : ℕ → EReal} {B C : ℕ → ι → EReal} (ha : IsReal a)
    (hdt : ∀ t, IsReal (dt t)) (hx : ∀ t, IsReal (x t)) (hB : ∀ t n, IsReal (B t n)) (hC : ∀ t n, IsReal (C t n)) (t0 L : ℕ) (i : Fin L) :
    Ideal.exp (cumE a dt t0 (i + 1))
      * (∑ j : Fin L, (if (j : ℕ) ≤ i then (∑ n, C (t0 + i) n * B (t0 + j) n) * Ideal.exp (0 - cumE a dt t0 (j + 1)) * (x (t0 + j) * dt (t0 + j)) else 0)
        + ∑ n, C (t0 + i) n * stateE a dt x (fun t => B t n) t0)
      = ∑ n, stateE a dt x (fun t => B t n) (t0 + i + 1) * C (t0 + i) n := by
  obtain ⟨a, rfl⟩ := ha
  choose dt' hdt using hdt
  choose x' hx using hx
  choose B' hB using hB
  choose C' hC using hC
  obtain rfl : dt = fun t => ↑(dt' t) := funext hdt
  obtain rfl : x = fun t => ↑(x' t) := funext hx
  obtain rfl : B = fun t n => ↑(B' t n) := funext fun t => funext (hB t)
  obtain rfl : C = fun t n => ↑(C' t n) := funext fun t => funext (hC t)
  have hite : ∀ (p : Prop) [Decidable p] (r : ℝ), (if p then (r : EReal) else ((0 : ℝ) : EReal)) = ((if p then r else 0 : ℝ) : EReal) := by
    intro p _ r
    split <;> rfl
  simp only [stateE_coe a dt' x' fun t => B' t _, cumE_coe, ← EReal.coe_zero, ← EReal.coe_sub, Ideal.exp_coe, ← EReal.coe_mul, coe_sum, hite,
    ← EReal.coe_add]
  rw [readR_chunk]

end Mamba

end
-- ==== Proof.Spec.lean ====
/-
  One state-space layer as plain functions of one sequence, over the extended reals: `h t` is the layer's input row at time `t`, and every
  quantity is read by its coordinates. The programs' arrays are compared through these functions.
-/
module

public import proofs.«01_k».proof.Proof.Scan

@[expose] public section

noncomputable section

namespace Mamba

open Finset Idealize.ShloMosaic

/-- The parameters of a layer, by coordinates. -/
structure Layer where
  nw : Fin 1024 → EReal
  W : Fin 1024 → Fin 4240 → EReal
  cw : Fin 3 → Fin 2176 → EReal
  cb : Fin 2176 → EReal
  dtb : Fin 16 → EReal
  alog : Fin 16 → EReal
  D : Fin 16 → EReal
  gnw : Fin 2048 → EReal
  outw : Fin 2048 → Fin 1024 → EReal

/-- The constants `1/1024`, `1/2048` and the epsilon of the two normalizations, as the bit patterns that the programs carry. -/
def inv1024 : EReal := Ideal.ofBits .f32 0x3A800000#32
def inv2048 : EReal := Ideal.ofBits .f32 0x3A000000#32
def eps : EReal := Ideal.ofBits .f32 0x358637BD#32

/-- A power of two as a pattern: its exact value. -/
theorem inv1024_eq : inv1024 = ((1 / 1024 : ℝ) : EReal) := by
  simp [inv1024, Ideal.ofBits, Ideal.ieee]; rw [← EReal.coe_mul]; norm_num
theorem inv2048_eq : inv2048 = ((1 / 2048 : ℝ) : EReal) := by
  simp [inv2048, Ideal.ofBits, Ideal.ieee]; rw [← EReal.coe_mul]; norm_num
theorem eps_eq : ∃ e : ℝ, 0 < e ∧ eps = e := by
  refine ⟨8796093 * (2 ^ 43)⁻¹, by positivity, ?_⟩
  simp [eps, Ideal.ofBits, Ideal.ieee]

theorem div_1024 (x : EReal) : Ideal.div x (Ideal.ofBits .f32 0x44800000#32) = x * inv1024 := by
  have h : Ideal.ofBits .f32 0x44800000#32 = ((1024 : ℝ) : EReal) := by
    simp [Ideal.ofBits, Ideal.ieee]; rw [← EReal.coe_mul]; norm_num
  rw [h, inv1024_eq, Ideal.div, if_neg (by norm_num), ← EReal.coe_inv]
  norm_num
theorem div_2048 (x : EReal) : Ideal.div x (Ideal.ofBits .f32 0x45000000#32) = x * inv2048 := by
  have h : Ideal.ofBits .f32 0x45000000#32 = ((2048 : ℝ) : EReal) := by
    simp [Ideal.ofBits, Ideal.ieee]; rw [← EReal.coe_mul]; norm_num
  rw [h, inv2048_eq, Ideal.div, if_neg (by norm_num), ← EReal.coe_inv]
  norm_num

/-- The factor of a root-mean-square normalization: `c` is one over the number of entries. -/
def scale {n : ℕ} (c : EReal) (v : Fin n → EReal) : EReal := Ideal.rsqrt ((∑ e, v e * v e) * c + eps)

def silu (x : EReal) : EReal := x * Ideal.logistic x

def softplus (x : EReal) : EReal := max x 0 + Ideal.log1p (Ideal.exp (-max x (-x)))

theorem scale_real {n : ℕ} {c : EReal} {v : Fin n → EReal} (hc : ∃ r : ℝ, 0 ≤ r ∧ c = r) (hv : ∀ e, IsReal (v e)) : IsReal (scale c v) := by
  obtain ⟨r, hr, rfl⟩ := hc
  obtain ⟨e, he, h⟩ := eps_eq
  choose v' hv using hv
  obtain rfl : v = fun e => ↑(v' e) := funext hv
  simp only [scale, h, ← EReal.coe_mul, coe_sum, ← EReal.coe_add]
  refine IsReal.rsqrt_of_pos ?_
  have : 0 ≤ ∑ e, v' e * v' e := sum_nonneg fun i _ => mul_self_nonneg _
  positivity

theorem softplus_real {x : EReal} (hx : IsReal x) : IsReal (softplus x) :=
  (hx.max IsReal.zero).add (hx.max hx.neg).neg.log1p_exp

/-- A row of 64 lanes in 128: zero behind. -/
def wide (f : Fin 64 → EReal) (n : Fin 128) : EReal := if h : (n : ℕ) < 64 then f ⟨n, h⟩ else 0

theorem sum_wide (f g : Fin 64 → EReal) : ∑ n, wide f n * wide g n = ∑ n, f n * g n := by
  rw [show (∑ n : Fin 128, wide f n * wide g n) = ∑ n : Fin (64 + 64), wide f n * wide g n from rfl, Fin.sum_univ_add]
  simp [wide]

namespace Layer

variable (L : Layer)

/-- The input projection of a normalized row. -/
def proj (r : Fin 1024 → EReal) (k : Fin 4240) : EReal := ∑ d, r d * scale inv1024 r * L.nw d * L.W d k

/-- The convolution over three rows (the oldest first), and its activation. -/
def conv3 (p2 p1 p0 : EReal) (k : Fin 2176) : EReal := silu (p2 * L.cw 0 k + p1 * L.cw 1 k + p0 * L.cw 2 k + L.cb k)

def a (hh : Fin 16) : EReal := -Ideal.exp (L.alog hh)

/-- The row that leaves the layer, from the row that entered it, its gate and what the scan read. -/
def gated (gate y : Fin 2048 → EReal) (k : Fin 2048) : EReal := y k * silu (gate k)
def outRow (r : Fin 1024 → EReal) (g : Fin 2048 → EReal) (d : Fin 1024) : EReal :=
  r d + ∑ k, g k * scale inv2048 g * L.gnw k * L.outw k d

section Sequence

variable (h : ℕ → Fin 1024 → EReal)

def gate (t : ℕ) (k : Fin 2048) : EReal := L.proj (h t) ⟨k, by omega⟩
def xbc (t : ℕ) (k : Fin 2176) : EReal := L.proj (h t) ⟨2048 + k, by omega⟩
/-- The convolution's input `s` steps back: zero before the sequence starts. -/
def past (s t : ℕ) (k : Fin 2176) : EReal := if t < s then 0 else L.xbc h (t - s) k
def conv (t : ℕ) (k : Fin 2176) : EReal := L.conv3 (L.past h 2 t k) (L.past h 1 t k) (L.xbc h t k) k
def dt (t : ℕ) (hh : Fin 16) : EReal := softplus (L.proj (h t) ⟨4224 + hh, by omega⟩ + L.dtb hh)
def X (t : ℕ) (hh : Fin 16) (p : Fin 128) : EReal := L.conv h t ⟨128 * hh + p, by omega⟩
def B (t : ℕ) (n : Fin 64) : EReal := L.conv h t ⟨2048 + n, by omega⟩
def C (t : ℕ) (n : Fin 64) : EReal := L.conv h t ⟨2112 + n, by omega⟩
def state (t : ℕ) (hh : Fin 16) (p : Fin 128) (n : Fin 64) : EReal :=
  stateE (L.a hh) (fun t => L.dt h t hh) (fun t => L.X h t hh p) (fun t => L.B h t n) t
def y (t : ℕ) (hh : Fin 16) (p : Fin 128) : EReal :=
  ∑ n, L.state h (t + 1) hh p n * L.C h t n + L.D hh * L.X h t hh p
/-- The head and the lane of a column. -/
def yCol (t : ℕ) (k : Fin 2048) : EReal := L.y h t ⟨k / 128, by omega⟩ ⟨k % 128, by omega⟩
def out (t : ℕ) (d : Fin 1024) : EReal := L.outRow (h t) (gated (L.gate h t) (L.yCol h t)) d

theorem past_of_le {s i : ℕ} (hs : s ≤ i) (t0 : ℕ) (k : Fin 2176) : L.past h s (t0 + i) k = L.xbc h (t0 + (i - s)) k := by
  rw [past, if_neg (by omega), Nat.add_sub_assoc hs]

theorem past_of_lt {s i : ℕ} (hs : i < s) (t0 : ℕ) (k : Fin 2176) : L.past h s (t0 + i) k = L.past h (s - i) t0 k := by
  simp only [past, show t0 + i < s ↔ t0 < s - i by omega, show t0 + i - s = t0 - (s - i) by omega]

end Sequence

/-- What the recurrence needs of a layer: the parameters that reach it are real numbers. -/
structure Real : Prop where
  nw : ∀ d, IsReal (L.nw d)
  W : ∀ d k, IsReal (L.W d k)
  cw : ∀ s k, IsReal (L.cw s k)
  cb : ∀ k, IsReal (L.cb k)
  dtb : ∀ k, IsReal (L.dtb k)
  alog : ∀ k, IsReal (L.alog k)

variable {L} {h : ℕ → Fin 1024 → EReal} (hL : L.Real) (hh : ∀ t d, IsReal (h t d))

include hL in
theorem a_real (k : Fin 16) : IsReal (L.a k) := (hL.alog k).exp.neg

include hL in
theorem proj_real {r : Fin 1024 → EReal} (hr : ∀ d, IsReal (r d)) (k : Fin 4240) : IsReal (L.proj r k) :=
  IsReal.sum _ fun d _ => (((hr d).mul (scale_real ⟨1 / 1024, by norm_num, inv1024_eq⟩ hr)).mul (hL.nw d)).mul (hL.W d k)

include hL hh

theorem past_real (s t : ℕ) (k : Fin 2176) : IsReal (L.past h s t k) := IsReal.ite IsReal.zero (proj_real hL (hh _) _)

theorem conv_real (t : ℕ) (k : Fin 2176) : IsReal (L.conv h t k) := by
  have h0 : IsReal (L.past h 2 t k * L.cw 0 k + L.past h 1 t k * L.cw 1 k + L.xbc h t k * L.cw 2 k + L.cb k) :=
    ((((past_real hL hh _ _ _).mul (hL.cw _ _)).add ((past_real hL hh _ _ _).mul (hL.cw _ _))).add
      ((proj_real hL (hh _) _).mul (hL.cw _ _))).add (hL.cb _)
  exact h0.mul h0.logistic

theorem dt_real (t : ℕ) (k : Fin 16) : IsReal (L.dt h t k) := softplus_real ((proj_real hL (hh _) _).add (hL.dtb _))

/-- A chunk's end state, as the kernel forms it. -/
theorem state_end (t0 n : ℕ) (k : Fin 16) (p : Fin 128) (l : Fin 64) :
    L.state h t0 k p l * Ideal.exp (cumE (L.a k) (fun t => L.dt h t k) t0 n)
      + ∑ j : Fin n, L.B h (t0 + j) l * (L.X h (t0 + j) k p * (Ideal.exp (0 - cumE (L.a k) (fun t => L.dt h t k) t0 (j + 1))
          * Ideal.exp (cumE (L.a k) (fun t => L.dt h t k) t0 n) * L.dt h (t0 + j) k))
      = L.state h (t0 + n) k p l :=
  stateE_end (a_real hL k) (fun t => dt_real hL hh t k) (fun _ => conv_real hL hh _ _) (fun _ => conv_real hL hh _ _) t0 n

/-- What the scan reads at step `i` of a chunk, as the kernel forms it. -/
theorem y_chunk (t0 n : ℕ) (i : Fin n) (k : Fin 16) (p : Fin 128) :
    Ideal.exp (cumE (L.a k) (fun t => L.dt h t k) t0 (i + 1))
      * (∑ j : Fin n, (if (j : ℕ) ≤ i then (∑ l, L.C h (t0 + i) l * L.B h (t0 + j) l)
            * Ideal.exp (0 - cumE (L.a k) (fun t => L.dt h t k) t0 (j + 1)) * (L.X h (t0 + j) k p * L.dt h (t0 + j) k) else 0)
        + ∑ l, L.C h (t0 + i) l * L.state h t0 k p l) + L.D k * L.X h (t0 + i) k p
      = L.y h (t0 + i) k p := by
  simp only [y]
  refine congrArg (· + L.D k * L.X h (t0 + i) k p) ?_
  simp only [state]
  exact readE_chunk (x := fun t => L.X h t k p) (B := L.B h) (C := L.C h) (a_real hL k) (fun t => dt_real hL hh t k) (fun _ => conv_real hL hh _ _)
    (fun _ _ => conv_real hL hh _ _) (fun _ _ => conv_real hL hh _ _) t0 n i

/-- The same over 128 lanes, zero behind the state's 64. -/
theorem head_state (t0 : ℕ) (k k' : Fin 16) (n n' p p' : Fin 128) (q : ℕ) (hq : q = 128 * k + p) (hk : k' = k)
    (hn : n' = n) (hp : p' = p) :
    wide (fun l => L.state h t0 k p l) n * Ideal.exp (cumE (L.a k) (fun t => L.dt h t k) t0 256)
      + ∑ j : Fin 256, wide (L.B h (t0 + j)) n * (L.conv h (t0 + j) ⟨q, by omega⟩ * (Ideal.exp (0 - cumE (L.a k) (fun t => L.dt h t k) t0 (j + 1))
          * Ideal.exp (cumE (L.a k) (fun t => L.dt h t k) t0 256) * L.dt h (t0 + j) k))
      = wide (fun l => L.state h (t0 + 256) k' p' l) n' := by
  subst hk hn hp
  subst hq
  unfold wide
  split_ifs
  · exact state_end hL hh t0 256 _ _ _
  · simp

/-- A head's row, from the kernel's masked product and the carried state. -/
theorem head_y (t0 : ℕ) (i : Fin 256) (k k' : Fin 16) (p p' : Fin 128) (q : ℕ) (hq : q = 128 * k + p) (hk : k' = k)
    (hp : p' = p) :
    Ideal.exp (cumE (L.a k) (fun t => L.dt h t k) t0 (i + 1))
      * (∑ j : Fin 256, (if (j : ℕ) ≤ i then (∑ l, L.C h (t0 + i) l * L.B h (t0 + j) l)
            * Ideal.exp (0 - cumE (L.a k) (fun t => L.dt h t k) t0 (j + 1)) * (L.conv h (t0 + j) ⟨q, by omega⟩ * L.dt h (t0 + j) k) else 0)
        + ∑ n, wide (L.C h (t0 + i)) n * wide (fun l => L.state h t0 k p l) n) + L.D k * L.conv h (t0 + i) ⟨q, by omega⟩
      = L.y h (t0 + i) k' p' := by
  subst hk hp
  subst hq
  rw [sum_wide]
  exact y_chunk hL hh t0 256 i _ _

theorem head_row (t0 i' : ℕ) (i : Fin 256) (k : Fin 16) (p : Fin 128) (q : ℕ) (q' : Fin 2048) (hq : q = 128 * k + p) (hi : i' = i)
    (hq' : (q' : ℕ) = q) :
    Ideal.exp (cumE (L.a k) (fun t => L.dt h t k) t0 (i + 1))
      * (∑ j : Fin 256, (if (j : ℕ) ≤ i then (∑ l, L.C h (t0 + i) l * L.B h (t0 + j) l)
            * Ideal.exp (0 - cumE (L.a k) (fun t => L.dt h t k) t0 (j + 1)) * (L.conv h (t0 + j) ⟨q, by omega⟩ * L.dt h (t0 + j) k) else 0)
        + ∑ n, wide (L.C h (t0 + i)) n * wide (fun l => L.state h t0 k p l) n) + L.D k * L.conv h (t0 + i) ⟨q, by omega⟩
      = L.yCol h (t0 + i') q' := by
  subst hi
  exact head_y hL hh t0 i k _ p _ q hq (Fin.ext (by show (q' : ℕ) / 128 = k; omega)) (Fin.ext (by show (q' : ℕ) % 128 = p; omega))

end Layer

end Mamba

end
-- ==== Proof.Common.lean ====
/-
  What the proofs of the launches share: reads of the operations that their bodies and references have in common.
-/
module

public import proofs.«01_k».proof.Proof.Spec
public import Idealize.ShloMosaic.Lib.Pipeline.ValueKit
import Idealize.ShloMosaic.Lib.Pipeline.ReadBack
import Idealize.ShloMosaic.Lib.WordCmp

@[expose] public section

set_option maxRecDepth 16384

noncomputable section

open Idealize.ShloMosaic Idealize.ShloMosaic.TcCoe Idealize.SL.Sem

namespace Mamba

/-- A row through the input projection. -/
def inRow (x : Fin 512 → EReal) (W : Fin 512 → Fin 1024 → EReal) (b : Fin 1024 → EReal) (d : Fin 1024) : EReal := ∑ e, x e * W e d + b d

theorem inRow_real {x : Fin 512 → EReal} {W : Fin 512 → Fin 1024 → EReal} {b : Fin 1024 → EReal} (hx : ∀ e, IsReal (x e)) (hW : ∀ e d, IsReal (W e d))
    (hb : ∀ d, IsReal (b d)) (d : Fin 1024) : IsReal (inRow x W b d) := (IsReal.sum _ fun e _ => (hx e).mul (hW e d)).add (hb d)

/-- A select on a signed comparison of two small numbers. -/
theorem select_lt {a b : ℕ} (ha : a < 2 ^ 31) (hb : b < 2 ^ 31) (x y : EReal) :
    Scalar.select (IntOp.cmpi .slt (BitVec.ofNat 32 a) (BitVec.ofNat 32 b)) x y = if a < b then x else y := by
  rw [WordCmp.cmpi_slt_ofNat ha hb]
  by_cases h : a < b <;> simp [h, Scalar.select]

theorem select_ge {a b : ℕ} (ha : a < 2 ^ 31) (hb : b < 2 ^ 31) (x y : EReal) :
    Scalar.select (IntOp.cmpi .sge (BitVec.ofNat 32 a) (BitVec.ofNat 32 b)) x y = if b ≤ a then x else y := by
  rw [WordCmp.cmpi_sge_ofNat ha hb]
  by_cases h : b ≤ a <;> simp [h, Scalar.select]

/-- A doubling of the running sums: to each row the row `w` before it is added, zero before the first. -/
theorem double_read {Sz Ss : Shape} (w : ℕ) (al : ℕ → EReal) (k : Fin 16) (v : FVec Ideal (⟨2, ![256, 16]⟩ : Shape) .f32) (z : FVec Ideal Sz .f32)
    (hs : (⟨2, ![256, 16]⟩ : Shape).Slices ![0, 0] Ss) (hc) (hv : ∀ i : Fin 256, v (ix2 i k) = window al w i)
    (hread : ∀ (v : FVec Ideal (⟨2, ![256, 16]⟩ : Shape) .f32) (i : Fin 256), concatenate (⟨2, ![256, 16]⟩ : Shape) 0 [⟨Sz, z⟩, ⟨Ss, extractStridedSlice Ss ![0, 0] v hs⟩] hc (ix2 i k)
      = if h : (i : ℕ) < w then 0 else v (ix2 ⟨i - w, by omega⟩ k)) (i : Fin 256) :
    addf v (concatenate (⟨2, ![256, 16]⟩ : Shape) 0 [⟨Sz, z⟩, ⟨Ss, extractStridedSlice Ss ![0, 0] v hs⟩] hc) (ix2 i k) = window al (2 * w) i := by
  rw [← window_double]
  show v (ix2 i k) + _ = _
  rw [hv, hread]
  congr 1
  split_ifs
  · rfl
  · exact hv _

/-- The mask of a chunk's rows. -/
theorem mask_read (i j : Fin 256) (x y : EReal) :
    Scalar.select (IntOp.cmpi .sge (BitVec.ofNat 32 i) (BitVec.ofNat 32 j)) x y = if (j : ℕ) ≤ i then x else y :=
  select_ge (by omega) (by omega) x y

/-- Sixteen copies of an array whose rows are constant, side by side. -/
theorem repeat_read (v : FVec Ideal (⟨2, ![256, 128]⟩ : Shape) .f32) (r : Fin 256 → EReal) (hv : ∀ i j, v (ix2 i j) = r i) (hc) (i : Fin 256) (k : Fin 2048) :
    concatenate (⟨2, ![256, 2048]⟩ : Shape) 1 [⟨_, v⟩, ⟨_, v⟩, ⟨_, v⟩, ⟨_, v⟩, ⟨_, v⟩, ⟨_, v⟩, ⟨_, v⟩,
      ⟨_, v⟩, ⟨_, v⟩, ⟨_, v⟩, ⟨_, v⟩, ⟨_, v⟩, ⟨_, v⟩, ⟨_, v⟩, ⟨_, v⟩, ⟨_, v⟩] hc (ix2 i k)
      = r i := by
  refine (concatenate_replicate_apply (t := (⟨2, ![256, 2048]⟩ : Shape)) 1 16 v hc rfl (ix2 i k) (ix2 i ⟨k % 128, by omega⟩) rfl fun b hb => ?_).trans (hv _ _)
  match b with
  | ⟨0, _⟩ => rfl
  | ⟨1, _⟩ => exact absurd rfl hb

/-- Pieces that cover an index decide the canon there: earlier pieces do not count. -/
theorem canon_append_covered {s : Shape} {e : EltTy} (L L' : List (View.Piece (Elt Ideal) s e)) (y : s.Idx)
    (hc : ∃ p ∈ L, y ∈ p.1.set) : View.canon (L ++ L') y = View.canon L y := by
  induction L with
  | nil => obtain ⟨p, hp, _⟩ := hc; simp at hp
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hy⟩ := hc
      rcases List.mem_cons.mp hq with rfl | hq
      · exact absurd hy hm
      · exact ⟨q, hq, hy⟩

/-- The projection as the reference divides by the row's length. -/
theorem proj_div (L : Layer) (r : Fin 1024 → EReal) (k : Fin 4240) : L.proj r k
    = ∑ x, r x * Ideal.rsqrt (Ideal.div (∑ x, r x * r x) (Ideal.ofBits .f32 0x44800000#32) + Ideal.ofBits .f32 0x358637BD#32) * L.nw x * L.W x k := by
  simp only [Layer.proj, scale, div_1024]
  rfl

/-- The gated row's normalization as the reference divides by the row's length. -/
theorem outRow_div (L : Layer) (r : Fin 1024 → EReal) (g : Fin 2048 → EReal) (d : Fin 1024) : L.outRow r g d
    = r d + ∑ k, g k * Ideal.rsqrt (Ideal.div (∑ k, g k * g k) (Ideal.ofBits .f32 0x45000000#32) + Ideal.ofBits .f32 0x358637BD#32) * L.gnw k * L.outw k d := by
  simp only [Layer.outRow, scale, div_2048]
  rfl

/-- What a trip makes of a state's entry, and what it reads off a state's row. -/
def stepE (a dt x B s : EReal) : EReal := s * Ideal.exp (dt * a) + dt * x * B
def sumE (f g : Fin 64 → EReal) : EReal := ∑ n, f n * g n

/-- Below infinity in absolute value is real. -/
theorem real_of_lt {x : EReal} (h : Ideal.cmp .olt (max x (-x)) (Ideal.ofBits .f32 0x7F800000#32) = 1#1) : IsReal x := by
  have t : Ideal.ofBits .f32 0x7F800000#32 = (⊤ : EReal) := by simp [Ideal.ofBits, Ideal.ieee]
  rw [t] at h
  have h' : max x (-x) < (⊤ : EReal) := by
    by_contra hn
    simp only [Ideal.cmp, decide_eq_false hn] at h
    exact absurd h (by decide)
  induction x with
  | bot => simp at h'
  | top => simp at h'
  | coe r => exact ⟨r, rfl⟩

end Mamba

end
-- ==== Proof.Chunk.lean ====
/-
  One grid point of the kernel: the values its body forms from a chunk of 256 rows, read through `Mamba.Layer`. The chunk starts at time `t0`
  of the sequence `h`; `halo` holds the two rows of the convolution's input before it.
-/
module

public import proofs.«01_k».proof.Proof.Gen.KernelIdeal.Value
public import proofs.«01_k».proof.Proof.Common
public import Idealize.ShloMosaic.Lib.Pipeline.ValueKit

@[expose] public section

set_option maxRecDepth 16384

noncomputable section

open Cert.KernelIdeal Cert.KernelIdeal.Gen Idealize.ShloMosaic Idealize.ShloMosaic.TcCoe Idealize.SL.Sem Mamba
open Idealize.ShloMosaic.Pipeline (Dat)

namespace Cert.KernelIdeal.Value

/-- What the body reads at a grid point, by coordinates: the rows, the parameters and the halo. -/
structure Reads (L : Layer) (h : ℕ → Fin 1024 → EReal) (t0 : ℕ) (x : FVec Ideal S1x256x1024 .f32) (ones : FVec Ideal S1024x128 .bf16)
    (nw : FVec Ideal S1x1024 .f32) (W : FVec Ideal S1024x4240 .bf16) (halo : FVec Ideal S2x2176 .f32) (w0 w1 w2 cb : FVec Ideal S1x2176 .f32)
    (dtb alog : FVec Ideal S1x16 .f32) : Prop where
  x : ∀ i d, x (ix3 0 i d) = h (t0 + i) d
  ones : ∀ d j, ones (ix2 d j) = 1
  nw : ∀ d, nw (ix2 0 d) = L.nw d
  W : ∀ d k, W (ix2 d k) = L.W d k
  halo : ∀ (r : Fin 2) k, halo (ix2 r k) = L.past h (2 - r) t0 k
  w0 : ∀ k, w0 (ix2 0 k) = L.cw 0 k
  w1 : ∀ k, w1 (ix2 0 k) = L.cw 1 k
  w2 : ∀ k, w2 (ix2 0 k) = L.cw 2 k
  cb : ∀ k, cb (ix2 0 k) = L.cb k
  dtb : ∀ k, dtb (ix2 0 k) = L.dtb k
  alog : ∀ k, alog (ix2 0 k) = L.alog k

section

variable {L : Layer} {h : ℕ → Fin 1024 → EReal} {t0 : ℕ} {x : FVec Ideal S1x256x1024 .f32} {ones : FVec Ideal S1024x128 .bf16}
  {nw : FVec Ideal S1x1024 .f32} {W : FVec Ideal S1024x4240 .bf16} {halo : FVec Ideal S2x2176 .f32} {w0 w1 w2 cb : FVec Ideal S1x2176 .f32}
  {dtb alog : FVec Ideal S1x16 .f32}
variable (R : Reads L h t0 x ones nw W halo w0 w1 w2 cb dtb alog)

include R

theorem x_read (i : Fin 256) (d : Fin 1024) : k0_pay4 (F := Ideal) x (ix2 i d) = h (t0 + i) d := by
  pointwise [k0_pay4]
  exact R.x i d

/-- The input projection. -/
theorem proj_read (i : Fin 256) (k : Fin 4240) : k0_pay5 (F := Ideal) x ones nw W (ix2 i k) = L.proj (h (t0 + i)) k := by
  pointwise [k0_pay5]
  simp only [x_read R, R.ones, R.nw, R.W, mul_one, dite_eq_ite, ite_self, Layer.proj, scale, inv1024, eps]

theorem gate_read (i : Fin 256) (k : Fin 2048) : k0_pay6 (F := Ideal) x ones nw W (ix2 i k) = L.gate h (t0 + i) k := by
  pointwise [k0_pay6]
  exact proj_read R _ _

theorem xbc_read (i : Fin 256) (k : Fin 2176) : k0_pay7 (F := Ideal) x ones nw W (ix2 i k) = L.xbc h (t0 + i) k := by
  pointwise [k0_pay7]
  exact proj_read R _ _

theorem dtr_read (i : Fin 256) (k : Fin 16) : k0_pay8 (F := Ideal) x ones nw W (ix2 i k) = L.proj (h (t0 + i)) ⟨4224 + k, by omega⟩ := by
  pointwise [k0_pay8]
  exact proj_read R _ _

/-- The convolution's input one row and two rows back: the halo's rows, then the chunk's own. -/
theorem past1_read (i : Fin 256) (k : Fin 2176) : k0_pay9 (F := Ideal) x ones nw W halo (ix2 i k) = L.past h 1 (t0 + i) k := by
  pointwise [k0_pay9]
  by_cases hi : (i : ℕ) < 1
  · rw [dif_pos hi, R.halo, L.past_of_lt h hi]
    exact congrArg (fun s => L.past h s t0 k) (show 2 - (1 + (i : ℕ)) = 1 - i by omega)
  · rw [dif_neg hi, xbc_read R, L.past_of_le h (by omega)]

theorem past2_read (i : Fin 256) (k : Fin 2176) : k0_pay10 (F := Ideal) x ones nw W halo w0 (ix2 i k) = L.past h 2 (t0 + i) k * L.cw 0 k := by
  pointwise [k0_pay10]
  rw [R.w0]
  by_cases hi : (i : ℕ) < 2
  · rw [dif_pos hi, R.halo, L.past_of_lt h hi]
  · rw [dif_neg hi, xbc_read R, L.past_of_le h (by omega)]

/-- The convolution and its activation. -/
theorem conv_read (i : Fin 256) (k : Fin 2176) :
    k0_pay12 (F := Ideal) (k0_pay7 x ones nw W) (k0_pay9 x ones nw W halo) (k0_pay10 x ones nw W halo w0) w1 w2 cb (ix2 i k)
      = L.conv h (t0 + i) k := by
  pointwise [k0_pay12]
  simp only [xbc_read R, past1_read R, past2_read R, R.w1, R.w2, R.cb]
  rfl

theorem x_lanes (i : Fin 256) (k : Fin 2048) :
    k0_pay13 (F := Ideal) (k0_pay7 x ones nw W) (k0_pay9 x ones nw W halo) (k0_pay10 x ones nw W halo w0) w1 w2 cb (ix2 i k)
      = L.conv h (t0 + i) ⟨k, by omega⟩ := by
  pointwise [k0_pay13]
  exact conv_read R _ _

/-- The two projections of the state: 64 lanes each, zero behind. -/
theorem b_lanes (i : Fin 256) (n : Fin 128) :
    k0_pay15 (F := Ideal) (k0_pay7 x ones nw W) (k0_pay9 x ones nw W halo) (k0_pay10 x ones nw W halo w0) w1 w2 cb (ix2 i n)
      = wide (L.B h (t0 + i)) n := by
  pointwise [k0_pay15, k0_pay14]
  rw [conv_read R, wide, select_lt (by omega) (by norm_num)]
  rfl

theorem c_lanes (i : Fin 256) (n : Fin 128) :
    k0_pay16 (F := Ideal) (k0_pay7 x ones nw W) (k0_pay9 x ones nw W halo) (k0_pay10 x ones nw W halo w0) w1 w2 cb (ix2 i n)
      = wide (L.C h (t0 + i)) n := by
  pointwise [k0_pay16, k0_pay14]
  rw [wide, select_lt (by omega) (by norm_num)]
  by_cases hn : (n : ℕ) < 64
  · simp only [if_pos hn, dif_pos hn, conv_read R, Layer.C]
    exact congrArg (L.conv h (t0 + i)) (Fin.ext (by show 2048 + (64 + (n : ℕ)) = 2112 + n; omega))
  · rw [if_neg hn, dif_neg hn]

theorem g_read (i j : Fin 256) :
    k0_pay17 (F := Ideal) (k0_pay7 x ones nw W) (k0_pay9 x ones nw W halo) (k0_pay10 x ones nw W halo w0) w1 w2 cb (ix2 i j)
      = ∑ n, L.C h (t0 + i) n * L.B h (t0 + j) n := by
  pointwise [k0_pay17]
  simp only [b_lanes R, c_lanes R]
  exact sum_wide _ _

/-- The layer's output row, through the head's matrix. -/
theorem out_read (Y : FVec Ideal S256x2048 .f32) (o2 : FVec Ideal S2048x128 .bf16) (gnw : FVec Ideal S1x2048 .f32) (outw : FVec Ideal S2048x1024 .bf16)
    (wc : FVec Ideal S1024x1536 .bf16) (hY : ∀ i k, Y (ix2 i k) = L.yCol h (t0 + i) k) (ho : ∀ d j, o2 (ix2 d j) = 1)
    (hg : ∀ k, gnw (ix2 0 k) = L.gnw k) (hw : ∀ k d, outw (ix2 k d) = L.outw k d) (i : Fin 256) (o : Fin 1536) :
    k0_pay124 (F := Ideal) (k0_pay4 x) (k0_pay6 x ones nw W) Y (k0_pay123 (k0_pay6 x ones nw W)) o2 gnw outw wc (ix2 i o)
      = ∑ d, L.out h (t0 + i) d * wc (ix2 d o) := by
  have hG : ∀ i k, mulf Y (mulf (k0_pay6 x ones nw W) (k0_pay123 (k0_pay6 x ones nw W))) (ix2 i k)
      = Layer.gated (L.gate h (t0 + i)) (L.yCol h (t0 + i)) k := by
    intro i k
    pointwise [k0_pay123]
    rw [hY, gate_read R]
    rfl
  simp only [k0_pay124]
  generalize mulf Y (mulf (k0_pay6 x ones nw W) (k0_pay123 (k0_pay6 x ones nw W))) = G at hG ⊢
  have hx := x_read R
  generalize k0_pay4 (F := Ideal) x = xr at hx ⊢
  generalize hrp : concatenate S256x2048 1 _ _ = rp
  have hr : ∀ i k, rp (ix2 i k) = scale inv2048 (Layer.gated (L.gate h (t0 + i)) (L.yCol h (t0 + i))) := by
    intro i k
    rw [← hrp]
    refine repeat_read _ (fun i => scale inv2048 (Layer.gated (L.gate h (t0 + i)) (L.yCol h (t0 + i)))) (fun i j => ?_) _ i k
    pointwise
    simp only [hG, ho, mul_one]
    rfl
  pointwise
  simp only [hx, hr, hG, hg, hw]
  rfl

variable {z : Ideal .f32} (hz : z = 0)
include hz

/-- The time step; the kernel's `z` is zero. -/
theorem dt_read (i : Fin 256) (k : Fin 16) :
    k0_pay20 (F := Ideal) (k0_pay18 (k0_pay8 x ones nw W) dtb) z (k0_pay19 (k0_pay8 x ones nw W) dtb) (ix2 i k)
      = L.dt h (t0 + i) k := by
  pointwise [k0_pay20, k0_pay18, k0_pay19]
  simp only [dtr_read R, R.dtb, hz, sub_zero, ne_eq, not_true_eq_false, if_false, zero_sub]
  rfl

/-- The running sums of `dt * a`, all but the last doubling. -/
theorem sums_read (i : Fin 256) (k : Fin 16) :
    k0_pay21 (F := Ideal) (k0_pay18 (k0_pay8 x ones nw W) dtb) z (k0_pay19 (k0_pay8 x ones nw W) dtb) alog (ix2 i k)
      = window (fun j => L.dt h (t0 + j) k * L.a k) 128 i := by
  simp only [k0_pay21]
  refine double_read 64 _ k _ _ _ _ (double_read 32 _ k _ _ _ _ (double_read 16 _ k _ _ _ _ (double_read 8 _ k _ _ _ _
    (double_read 4 _ k _ _ _ _ (double_read 2 _ k _ _ _ _ (double_read 1 _ k _ _ _ _ ?_ ?_) ?_) ?_) ?_) ?_) ?_) ?_ i
  · intro i
    pointwise
    rw [dt_read R hz, R.alog, window_one, zero_sub]
    rfl
  all_goals
    intro v i
    pointwise

theorem cum_read (i : Fin 256) (k : Fin 16) :
    k0_pay23 (F := Ideal) (k0_pay21 (k0_pay18 (k0_pay8 x ones nw W) dtb) z (k0_pay19 (k0_pay8 x ones nw W) dtb) alog)
      k0_pay22 (ix2 i k) = cumE (L.a k) (fun t => L.dt h t k) t0 (i + 1) := by
  simp only [k0_pay23]
  refine (double_read 128 _ k _ _ _ _ (fun i => sums_read R hz i k) ?_ i).trans (window_full _ _ _ (by omega))
  intro v i
  pointwise [k0_pay22]

theorem exp_read (i : Fin 256) (k : Fin 16) :
    k0_pay24 (F := Ideal) (k0_pay21 (k0_pay18 (k0_pay8 x ones nw W) dtb) z (k0_pay19 (k0_pay8 x ones nw W) dtb) alog)
      k0_pay22 (ix2 i k) = Ideal.exp (cumE (L.a k) (fun t => L.dt h t k) t0 (i + 1)) := by
  pointwise [k0_pay24]
  rw [cum_read R hz]

theorem expneg_read (i : Fin 256) (k : Fin 16) :
    k0_pay25 (F := Ideal) (k0_pay21 (k0_pay18 (k0_pay8 x ones nw W) dtb) z (k0_pay19 (k0_pay8 x ones nw W) dtb) alog)
      k0_pay22 (ix2 i k) = Ideal.exp (0 - cumE (L.a k) (fun t => L.dt h t k) t0 (i + 1)) := by
  pointwise [k0_pay25]
  rw [cum_read R hz]

theorem expneg_read_t (i : Fin 256) (k : Fin 16) :
    k0_pay26 (F := Ideal) (k0_pay21 (k0_pay18 (k0_pay8 x ones nw W) dtb) z (k0_pay19 (k0_pay8 x ones nw W) dtb) alog)
      k0_pay22 (ix2 k i) = Ideal.exp (0 - cumE (L.a k) (fun t => L.dt h t k) t0 (i + 1)) := by
  pointwise [k0_pay26]
  rw [expneg_read R hz]

omit hz in
/-- The rows that the point leaves in the halo. -/
theorem halo_read (r : Fin 2) (k : Fin 2176) : k0_pay11 (F := Ideal) (k0_pay7 x ones nw W) (ix2 r k) = L.past h (2 - r) (t0 + 256) k := by
  pointwise [k0_pay11]
  rw [xbc_read R, L.past_of_le h (by omega)]
  exact congrArg (fun s => L.xbc h s k) (show t0 + (254 + (r : ℕ)) = t0 + (256 - (2 - r)) by omega)

end

end Cert.KernelIdeal.Value

end
-- ==== Proof.Point.lean ====
/-
  One grid point, from what its body leaves (`outsAt0`) to the layer's functions: the carried state, the halo, and the output rows.
-/
module

public import proofs.«01_k».proof.Proof.Chunk
public import Idealize.ShloMosaic.Lib.Pipeline.ValueKit
import Idealize.ShloMosaic.Lib.Pipeline.ReadBack
import Idealize.ShloMosaic.Lib.Ring

@[expose] public section

set_option maxRecDepth 16384

noncomputable section

open Cert.KernelIdeal Cert.KernelIdeal.Gen Idealize.ShloMosaic Idealize.ShloMosaic.TcCoe Idealize.SL.Sem Mamba
open Idealize.ShloMosaic.Pipeline (Dat)

namespace Cert.KernelIdeal.Value

variable (m : (ℓ : Loc nD τ sig) → Buf (Elt Ideal) ℓ)

theorem whole_idx (y : S256x2048.Idx) (a : Fin 2) :
    ((Rect.unit (s := S256x2048) ![0, 0] ![256, 2048] inb_S256x2048_S256x2048_0_0).idx y a : ℕ) = y a := by
  fin_cases a
  · show 0 + 1 * (y 0 : ℕ) = y 0
    omega
  · show 0 + 1 * (y 1 : ℕ) = y 1
    omega

/-- What a point finds in its scratch: zeros at the start of a sequence, else what the point before left. -/
def carried (c : Dev nD) (t : Fin cfg0.N) : Vec Ideal S16x128x128 .f32 × Vec Ideal S8x2176 .f32 :=
  if t.val % 4 = 0 then (k0_pay2 (F := Ideal), k0_pay3 (F := Ideal)) else (outsAt0 m c (t.val - 1) (by omega)).2

/-- What the body reads at point `t`. -/
abbrev PointReads (L : Layer) (h : ℕ → Fin 1024 → EReal) (t0 : ℕ) (c : Dev nD) (t : Fin cfg0.N) (halo : Vec Ideal S8x2176 .f32) : Prop :=
  Reads L h t0 (iblk m c 0 t) (View.ld (iblk m c 14 t) (Rect.unit ![0, 0] ![1024, 128] inb_S2048x128_S1024x128_0_0)) (iblk m c 10 t)
    (iblk m c 3 t) (View.ld halo (Rect.unit ![0, 0] ![2, 2176] inb_S8x2176_S2x2176_0_0))
    (View.ld (iblk m c 4 t) (Rect.unit ![0, 0] ![1, 2176] inb_S3x2176_S1x2176_0_0))
    (View.ld (iblk m c 4 t) (Rect.unit ![1, 0] ![1, 2176] inb_S3x2176_S1x2176_1_0))
    (View.ld (iblk m c 4 t) (Rect.unit ![2, 0] ![1, 2176] inb_S3x2176_S1x2176_2_0)) (iblk m c 5 t) (iblk m c 6 t) (iblk m c 7 t)

variable {m} {L : Layer} {h : ℕ → Fin 1024 → EReal} {t0 : ℕ} {c : Dev nD} {t : Fin cfg0.N}

set_option maxHeartbeats 2000000 in
/-- The state after a point. -/
theorem state_step (hL : L.Real) (hh : ∀ t d, IsReal (h t d)) (R : PointReads m L h t0 c t (carried m c t).2)
    (hP : ∀ k n p, (carried m c t).1 (ix3 k n p) = wide (fun l => L.state h t0 k p l) n) (y : S16x128x128.Idx) :
    (outsAt0 m c t t.isLt).2.1 y = wide (fun l => L.state h (t0 + 256) (y 0) (y 2) l) (y 1) := by
  have last : ((255 : Fin 256) : ℕ) + 1 = 256 := rfl
  have hz : (FloatOps.ofBits .f32 0#32 : Ideal .f32) = 0 := Ideal.ofBits_zero_f32
  generalize hz' : (FloatOps.ofBits .f32 0#32 : Ideal .f32) = z at hz
  have hX := x_lanes R
  have hB := b_lanes R
  have hD := dt_read R hz
  have hE := exp_read R hz
  have hN := expneg_read R hz
  by_cases ht : t.val % 4 = 0
  case' pos =>
    simp only [carried, if_pos ht] at hX hB hD hE hN hP
    rw [outsAt0_A m c t ht]
    frame_open
    simp (disch := decide) only [↓ View.readCov_skip, ↓ View.readCov_cons_toLoadRect, ↓ View.readCov_fill]
    frame_out
    refine (canon_append_covered [_, _, _, _, _, _, _, _, _, _, _, _, _, _, _, _] [_] y (View.cover_of_tiledL _ ![1, 128, 128] (by rfl) y)).trans ?_
    revert hX hB hD hE hN hP
    generalize k0_pay2 (F := Ideal) = P
  case' neg =>
    simp only [carried, if_neg ht] at hX hB hD hE hN hP
    rw [outsAt0_B m c t ht]
    frame_open
    simp (disch := decide) only [↓ View.readCov_skip, ↓ View.readCov_cons_toLoadRect, ↓ View.readCov_fill]
    frame_out
    simp only [read_unread_whole]
    revert hX hB hD hE hN hP
    generalize (outsAt0 m c (t.val - 1) _).2.1 = P
  all_goals
    rw [hz']
    generalize k0_pay13 (F := Ideal) (k0_pay7 _ _ _ _) (k0_pay9 _ _ _ _ _) (k0_pay10 _ _ _ _ _ _) _ _ _ = XS
    generalize k0_pay15 (F := Ideal) (k0_pay7 _ _ _ _) (k0_pay9 _ _ _ _ _) (k0_pay10 _ _ _ _ _ _) _ _ _ = BP
    generalize k0_pay20 (F := Ideal) _ _ _ = DT
    generalize k0_pay21 (F := Ideal) _ _ _ _ = PRE
    intro e1 e2 e3 e4 e5 e6
    canon_tiles y h
    all_goals
      rename_i y
      idx_vars y
      pointwise [k0_pay28, k0_pay29, k0_pay30, k0_pay31, k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117,
      k0_pay118, k0_pay119, k0_pay120, k0_pay121, k0_pay122]
      simp only [e1, e2, e3, e4, e5, e6, last]
      refine Layer.head_state hL hh t0 _ _ _ _ _ _ _ ?_ (Fin.ext (h0.trans ?_)) (Fin.ext h1) (Fin.ext h2)
      all_goals simp

set_option maxHeartbeats 2000000 in
/-- The halo after a point. -/
theorem halo_step (R : PointReads m L h t0 c t (carried m c t).2) (r : Fin 2) (k : Fin 2176) :
    (outsAt0 m c t t.isLt).2.2 (ix2 (r.castLE (by norm_num)) k) = L.past h (2 - r) (t0 + 256) k := by
  rw [← halo_read R]
  have e : (ix2 (r.castLE (by norm_num)) k : S8x2176.Idx) = (Rect.unit (s := S8x2176) ![0, 0] ![2, 2176] inb_S8x2176_S2x2176_0_0).emb (ix2 r k) := by
    blk_ext
    rfl
  by_cases ht : t.val % 4 = 0
  · rw [outsAt0_A m c t ht]
    frame_out
    rw [e]
    exact View.canon_cons_emb _ _ _ _
  · rw [outsAt0_B m c t ht]
    frame_out
    rw [e]
    exact View.read_writes_cons_emb _ _ _ _ _ _

set_option maxHeartbeats 2000000 in
/-- The output rows of a point. -/
theorem out_step (hL : L.Real) (hh : ∀ t d, IsReal (h t d)) (R : PointReads m L h t0 c t (carried m c t).2)
    (hP : ∀ k n p, (carried m c t).1 (ix3 k n p) = wide (fun l => L.state h t0 k p l) n)
    (hd : ∀ k, iblk m c 8 t (ix2 0 k) = L.D k) (ho : ∀ d j, iblk m c 14 t (ix2 d j) = (1 : EReal))
    (hg : ∀ k, iblk m c 9 t (ix2 0 k) = L.gnw k) (hw : ∀ k d, iblk m c 11 t (ix2 k d) = L.outw k d) (i : Fin 256) (o : Fin 1536) :
    (outsAt0 m c t t.isLt).1 (ix3 0 i o) = (∑ d, L.out h (t0 + i) d * iblk m c 12 t (ix2 d o)) + iblk m c 13 t (ix2 0 o) := by
  have hz : (FloatOps.ofBits .f32 0#32 : Ideal .f32) = 0 := Ideal.ofBits_zero_f32
  generalize hz' : (FloatOps.ofBits .f32 0#32 : Ideal .f32) = z at hz
  have hX := x_lanes R
  have hC := c_lanes R
  have hG := g_read R
  have hD := dt_read R hz
  have hE := exp_read R hz
  have hN := expneg_read_t R hz
  by_cases ht : t.val % 4 = 0
  case' pos =>
    simp only [carried, if_pos ht] at R hX hC hG hD hE hN hP
    rw [outsAt0_A m c t ht]
    frame_open
    simp (disch := decide) only [↓ View.readCov_skip, ↓ View.readCov_cons_toLoadRect, ↓ View.readCov_fill]
    frame_out
    rw [hz']
    revert hP
    generalize k0_pay2 (F := Ideal) = P
    intro hP
  case' neg =>
    simp only [carried, if_neg ht] at R hX hC hG hD hE hN hP
    rw [outsAt0_B m c t ht]
    frame_open
    simp (disch := decide) only [↓ View.readCov_skip, ↓ View.readCov_cons_toLoadRect, ↓ View.readCov_fill]
    frame_out
    simp only [read_unread_whole]
    rw [hz']
    revert hP
    generalize (outsAt0 m c (t.val - 1) _).2.1 = P
    intro hP
  all_goals
    pointwise [k0_pay1]
    refine congrArg (· + iblk m c 13 t (ix2 0 o)) (out_read R _ _ _ _ _ (fun i k => ?_) ho hg hw i o)
    rw [View.readCov_eq_canon']
    generalize e : (ix2 i k : S256x2048.Idx) = y
    obtain ⟨rfl, rfl⟩ : i = y 0 ∧ k = y 1 := by rw [← e]; exact ⟨rfl, rfl⟩
    revert hX hC hG hD hE hN hP
    generalize k0_pay13 (F := Ideal) (k0_pay7 _ _ _ _) (k0_pay9 _ _ _ _ _) (k0_pay10 _ _ _ _ _ _) _ _ _ = XS
    generalize k0_pay16 (F := Ideal) (k0_pay7 _ _ _ _) (k0_pay9 _ _ _ _ _) (k0_pay10 _ _ _ _ _ _) _ _ _ = CP
    generalize k0_pay17 (F := Ideal) (k0_pay7 _ _ _ _) (k0_pay9 _ _ _ _ _) (k0_pay10 _ _ _ _ _ _) _ _ _ = G
    generalize k0_pay20 (F := Ideal) _ _ _ = DT
    generalize k0_pay21 (F := Ideal) _ _ _ _ = PRE
    intro e1 e2 e3 e4 e5 e6 e7
    clear R e
    canon_tiles y h
    all_goals
      rename_i y
      idx_vars y
      pointwise [k0_pay28, k0_pay29, k0_pay30, k0_pay31, k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay27]
      simp only [e1, e2, e3, e4, e5, e6, e7, mask_read, hd]
      refine Layer.head_row hL hh t0 _ _ _ _ _ _ ?_ ((whole_idx y 0).symm.trans h0) ((whole_idx y 1).symm.trans h1)
      all_goals simp

end Cert.KernelIdeal.Value

end
-- ==== Proof.Blocks.lean ====
/-
  The kernel's run, read whole: what its windows hold at each grid point, the invariant of the state and the halo it carries along a
  sequence, and the result array as the layer's rows under the two heads.
-/
module

public import proofs.«01_k».proof.Proof.Point
public import Idealize.ShloMosaic.Lib.Pipeline.ValueKit

@[expose] public section

set_option maxRecDepth 16384

noncomputable section

open Cert.KernelIdeal Cert.KernelIdeal.Gen Idealize.ShloMosaic Idealize.ShloMosaic.TcCoe Idealize.SL.Sem Mamba
open Idealize.ShloMosaic.Pipeline (Dat)

namespace Cert.KernelIdeal.Value

variable (m : (ℓ : Loc nD τ sig) → Buf (Elt Ideal) ℓ) (c : Dev nD)

/-- The places of the blocks: window 0 takes the point's chunk, every other input window its whole array. -/
theorem places : ∀ t : Fin cfg0.N, win0_0.index t = ![t.val / 4, t.val % 4, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] :=
  (by decide +kernel : ∀ t : Fin grid0.N, _)

theorem places15 : ∀ t : Fin cfg0.N, win0_15.index t = ![t.val / 4, t.val % 4, 0] := (by decide +kernel : ∀ t : Fin grid0.N, _)

theorem blk0 (t : Fin cfg0.N) (b : Fin 8) (s : Fin 1024) (i : Fin 256) (d : Fin 1024) (hb : (b : ℕ) = t.val / 4)
    (hs : (s : ℕ) = 256 * (t.val % 4) + i) : iblk m c 0 t (ix3 0 i d) = m ((c : Thread nD τ).loc main_arg0) (ix3 b s d) := by
  blk_ext [iblk, V, places t]

theorem blk3 (t : Fin cfg0.N) (d : Fin 1024) (k : Fin 4240) : iblk m c 3 t (ix2 d k) = m ((c : Thread nD τ).loc main_arg2) (ix2 d k) := by
  blk_point [iblk, V, places t]

theorem blk4 (t : Fin cfg0.N) (r : Fin 3) (k : Fin 2176) :
    iblk m c 4 t (ix2 r k) = m ((c : Thread nD τ).loc main_arg3) (ix3 r 0 k) := by
  blk_point [iblk, V, places t]

theorem blk5 (t : Fin cfg0.N) (k : Fin 2176) : iblk m c 5 t (ix2 0 k) = m ((c : Thread nD τ).loc main_arg4) (ix1 k) := by
  blk_point [iblk, V, places t]

theorem blk6 (t : Fin cfg0.N) (k : Fin 16) : iblk m c 6 t (ix2 0 k) = m ((c : Thread nD τ).loc main_arg5) (ix1 k) := by
  blk_point [iblk, V, places t]

theorem blk7 (t : Fin cfg0.N) (k : Fin 16) : iblk m c 7 t (ix2 0 k) = m ((c : Thread nD τ).loc main_arg6) (ix1 k) := by
  blk_point [iblk, V, places t]

theorem blk8 (t : Fin cfg0.N) (k : Fin 16) : iblk m c 8 t (ix2 0 k) = m ((c : Thread nD τ).loc main_arg7) (ix1 k) := by
  blk_point [iblk, V, places t]

theorem blk9 (t : Fin cfg0.N) (k : Fin 2048) : iblk m c 9 t (ix2 0 k) = m ((c : Thread nD τ).loc main_arg8) (ix1 k) := by
  blk_point [iblk, V, places t]

theorem blk10 (t : Fin cfg0.N) (d : Fin 1024) : iblk m c 10 t (ix2 0 d) = m ((c : Thread nD τ).loc main_arg1) (ix1 d) := by
  blk_point [iblk, V, places t]

theorem blk11 (t : Fin cfg0.N) (k : Fin 2048) (d : Fin 1024) :
    iblk m c 11 t (ix2 k d) = m ((c : Thread nD τ).loc main_arg9) (ix2 k d) := by
  blk_point [iblk, V, places t]

/-- The two heads side by side. -/
def headW (d : Fin 1024) (o : Fin 1536) : EReal :=
  if h : (o : ℕ) < 512 then m ((c : Thread nD τ).loc main_arg10) (ix2 d ⟨o, h⟩)
  else m ((c : Thread nD τ).loc main_arg12) (ix2 d ⟨o - 512, by omega⟩)
def headB (o : Fin 1536) : EReal :=
  if h : (o : ℕ) < 512 then m ((c : Thread nD τ).loc main_arg11) (ix1 ⟨o, h⟩)
  else m ((c : Thread nD τ).loc main_arg13) (ix1 ⟨o - 512, by omega⟩)

theorem blk12 (t : Fin cfg0.N) (d : Fin 1024) (o : Fin 1536) : iblk m c 12 t (ix2 d o) = headW m c d o := by
  have e : ((View.whole main_v4).slice (win0_12.rect t)).emb (ix2 d o) = ix2 d o := by blk_ext [places t]
  blk_simp [iblk, V, places t]
  rw [e]
  entry_read
  pointwise
  rfl

theorem blk13 (t : Fin cfg0.N) (o : Fin 1536) : iblk m c 13 t (ix2 0 o) = headB m c o := by
  have e : ((View.whole main_v6).slice (win0_13.rect t)).emb (ix2 0 o) = ix2 0 o := by blk_ext [places t]
  blk_simp [iblk, V, places t]
  rw [e]
  entry_read
  pointwise
  rfl

theorem blk14 (t : Fin cfg0.N) (d : Fin 2048) (j : Fin 128) : iblk m c 14 t (ix2 d j) = (1 : EReal) := by
  blk_simp [iblk, V, places t]
  entry_read
  pointwise

/-- The layer's parameters and the sequences that enter it. -/
def layer : Layer where
  nw d := m ((c : Thread nD τ).loc main_arg1) (ix1 d)
  W d k := m ((c : Thread nD τ).loc main_arg2) (ix2 d k)
  cw r k := m ((c : Thread nD τ).loc main_arg3) (ix3 r 0 k)
  cb k := m ((c : Thread nD τ).loc main_arg4) (ix1 k)
  dtb k := m ((c : Thread nD τ).loc main_arg5) (ix1 k)
  alog k := m ((c : Thread nD τ).loc main_arg6) (ix1 k)
  D k := m ((c : Thread nD τ).loc main_arg7) (ix1 k)
  gnw k := m ((c : Thread nD τ).loc main_arg8) (ix1 k)
  outw k d := m ((c : Thread nD τ).loc main_arg9) (ix2 k d)
def seq (b s : ℕ) (d : Fin 1024) : EReal :=
  if h : b < 8 ∧ s < 1024 then m ((c : Thread nD τ).loc main_arg0) (ix3 ⟨b, h.1⟩ ⟨s, h.2⟩ d) else 0

/-- What a point finds carried is what the rows before its chunk leave. -/
structure Carried (t : Fin cfg0.N) : Prop where
  state : ∀ k n p, (carried m c t).1 (ix3 k n p) = wide (fun l => (layer m c).state (seq m c (t.val / 4)) (256 * (t.val % 4)) k p l) n
  halo : ∀ (r : Fin 2) k, (carried m c t).2 (ix2 (r.castLE (by norm_num)) k)
    = (layer m c).past (seq m c (t.val / 4)) (2 - r) (256 * (t.val % 4)) k

variable {m c}

theorem Carried.reads {t : Fin cfg0.N} (hc : Carried m c t) :
    PointReads m (layer m c) (seq m c (t.val / 4)) (256 * (t.val % 4)) c t (carried m c t).2 where
  x i d := by
    have hN : cfg0.N = 32 := rfl
    have ht := t.isLt
    rw [seq, dif_pos ⟨by omega, by omega⟩]
    exact blk0 m c t _ _ i d rfl rfl
  ones d j := by
    pointwise
    exact blk14 m c t _ j
  nw d := blk10 m c t d
  W d k := blk3 m c t d k
  halo r k := by
    rw [← hc.halo]
    pointwise
    rfl
  w0 k := by
    pointwise
    exact blk4 m c t 0 k
  w1 k := by
    pointwise
    exact blk4 m c t 1 k
  w2 k := by
    pointwise
    exact blk4 m c t 2 k
  cb k := blk5 m c t k
  dtb k := blk6 m c t k
  alog k := blk7 m c t k

/-- A sequence starts with nothing before it. -/
theorem Carried.start {t : Fin cfg0.N} (ht : t.val % 4 = 0) : Carried m c t where
  state k n p := by
    rw [carried, if_pos ht]
    pointwise [k0_pay2]
    simp [wide, Layer.state, stateE, ht]
  halo r k := by
    rw [carried, if_pos ht]
    pointwise [k0_pay3]
    rw [Layer.past, if_pos (by rw [ht]; omega)]

section
variable (hL : (layer m c).Real) (hh : ∀ b s d, IsReal (seq m c b s d))
include hL hh

theorem carried_all (n : ℕ) (hn : n < cfg0.N) : Carried m c ⟨n, hn⟩ := by
  induction n with
  | zero => exact Carried.start rfl
  | succ n ih =>
    by_cases h4 : (n + 1) % 4 = 0
    · exact Carried.start h4
    have hc := ih (by omega)
    have e : carried m c ⟨n + 1, hn⟩ = (outsAt0 m c n (by omega)).2 := if_neg h4
    have e1 : (n + 1) / 4 = n / 4 := by omega
    have e2 : 256 * ((n + 1) % 4) = 256 * (n % 4) + 256 := by omega
    constructor
    · intro k l p
      rw [e]
      simp only [e1, e2]
      exact state_step hL (hh _) hc.reads hc.state (ix3 k l p)
    · intro r k
      rw [e]
      simp only [e1, e2]
      exact halo_step hc.reads r k

/-- The result array: the layer's rows under the heads. -/
theorem result (b : Fin 8) (s : Fin 1024) (o : Fin 1536) :
    G15 m c (ix3 b s o) = (∑ d, (layer m c).out (seq m c b) s d * headW m c d o) + headB m c o := by
  have e : G15 m c = fun i : S8x1024x1536.Idx =>
      ((∑ d, (layer m c).out (seq m c (i 0)) (i 1) d * headW m c d (i 2)) + headB m c (i 2) : EReal) := by
    refine (final15 m c).symm.trans ((dats m 0 c).arrAt_eq_of_covers 15 _ (by decide +kernel) fun t hf y => ?_)
    have hN : cfg0.N = 32 := rfl
    have ht := t.isLt
    have hp := places15 t
    have hc := carried_all hL hh t.val t.isLt
    have e0 : win0_15.index t 0 = t.val / 4 := by rw [hp]; rfl
    have e1 : win0_15.index t 1 = t.val % 4 := by rw [hp]; rfl
    blk_simp
    rw [after0_15, e0, e1]
    idx_vars y
    have e2 : ((View.whole main_v16).slice (win0_15.rect t)).emb (ix3 y0 y1 y2) 2 = y2 := by
      apply Fin.ext
      blk_simp
      rw [show win0_15.index t 2 = 0 by rw [hp]; rfl]
      omega
    obtain rfl : y0 = 0 := Subsingleton.elim _ _
    refine (out_step hL (hh _) hc.reads hc.state (fun k => blk8 m c t k) (fun d j => blk14 m c t d j) (fun k => blk9 m c t k)
      (fun k d => blk11 m c t k d) y1 y2).trans ?_
    simp only [blk12, blk13, e2, Nat.mul_comm 256]
  exact congrFun e _

end

end Cert.KernelIdeal.Value

end
-- ==== Proof.Ref.lean ====
module

public import proofs.«01_k».proof.Proof.Common
public import proofs.«01_k».proof.Proof.Gen.ReferenceIdeal.Run
public import Idealize.ShloMosaic.Lib.Pipeline.ValueKit
import Idealize.ShloMosaic.Lib.StableHlo.ReadAt
import Idealize.ShloMosaic.Lib.DynamicIndex
import Idealize.ShloMosaic.Lib.WordCmp

/-! The reference's stretches before its loop, read at an index: what a sequence's rows give to the loop. -/

@[expose] public section

set_option maxRecDepth 16384

noncomputable section

open Cert.ReferenceIdeal Cert.ReferenceIdeal.Gen Idealize.ShloMosaic Idealize.ShloMosaic.TcCoe Idealize.SL.Sem Mamba
open Idealize.ShloMosaic.StableHlo

namespace Cert.ReferenceIdeal.Value

variable (V : Valuation τ sig (Elt Ideal))

/-- The layer and the sequences that a valuation of the arguments holds. -/
def layerOf : Layer where
  nw d := V (Proc.devRef .tc main_arg1) (ix1 d)
  W d k := V (Proc.devRef .tc main_arg2) (ix2 d k)
  cw r k := V (Proc.devRef .tc main_arg3) (ix3 r 0 k)
  cb k := V (Proc.devRef .tc main_arg4) (ix1 k)
  dtb k := V (Proc.devRef .tc main_arg5) (ix1 k)
  alog k := V (Proc.devRef .tc main_arg6) (ix1 k)
  D k := V (Proc.devRef .tc main_arg7) (ix1 k)
  gnw k := V (Proc.devRef .tc main_arg8) (ix1 k)
  outw k d := V (Proc.devRef .tc main_arg9) (ix2 k d)
def seqOf (b s : ℕ) (d : Fin 1024) : EReal :=
  if h : b < 8 ∧ s < 1024 then V (Proc.devRef .tc main_arg0) (ix3 ⟨b, h.1⟩ ⟨s, h.2⟩ d) else 0

theorem seqOf_val (b : Fin 8) (t : Fin 1024) (d : Fin 1024) : seqOf V b t d = V (Proc.devRef .tc main_arg0) (ix3 b t d) := by
  rw [seqOf, dif_pos ⟨b.2, t.2⟩]

/-- The valuations after each stretch. -/
def E1 := after hostOps0 V
def E2 := after hostOps0_1 (E1 V)
def E3 := after hostOps0_2 (E2 V)
def E4 := after hostOps0_3 (E3 V)
def E5 := after hostOps0_4 (E4 V)
def E6 := after hostOps0_5 (E5 V)
def E7 := after hostOps0_6 (E6 V)

theorem keep0 (r : Ref sig .tc) (h : r ∉ hostOps0_W) : E1 V (Proc.devRef .tc r) = V (Proc.devRef .tc r) :=
  after_of_writes_sub hostOps0 _ hostOps0_writes h
theorem keep1 (r : Ref sig .tc) (h : r ∉ hostOps0_1_W) : E2 V (Proc.devRef .tc r) = E1 V (Proc.devRef .tc r) :=
  after_of_writes_sub hostOps0_1 _ hostOps0_1_writes h
theorem keep2 (r : Ref sig .tc) (h : r ∉ hostOps0_2_W) : E3 V (Proc.devRef .tc r) = E2 V (Proc.devRef .tc r) :=
  after_of_writes_sub hostOps0_2 _ hostOps0_2_writes h
theorem keep3 (r : Ref sig .tc) (h : r ∉ hostOps0_3_W) : E4 V (Proc.devRef .tc r) = E3 V (Proc.devRef .tc r) :=
  after_of_writes_sub hostOps0_3 _ hostOps0_3_writes h
theorem keep4 (r : Ref sig .tc) (h : r ∉ hostOps0_4_W) : E5 V (Proc.devRef .tc r) = E4 V (Proc.devRef .tc r) :=
  after_of_writes_sub hostOps0_4 _ hostOps0_4_writes h
theorem keep5 (r : Ref sig .tc) (h : r ∉ hostOps0_5_W) : E6 V (Proc.devRef .tc r) = E5 V (Proc.devRef .tc r) :=
  after_of_writes_sub hostOps0_5 _ hostOps0_5_writes h
theorem keep6 (r : Ref sig .tc) (h : r ∉ hostOps0_6_W) : E7 V (Proc.devRef .tc r) = E6 V (Proc.devRef .tc r) :=
  after_of_writes_sub hostOps0_6 _ hostOps0_6_writes h

theorem E1_gate (b : Fin 8) (t : Fin 1024) (k : Fin 2048) :
    E1 V (Proc.devRef .tc main_v14) (ix3 b t k) = (layerOf V).gate (seqOf V b) t k := by
  rw [Layer.gate, proj_div, E1]
  after_reads_at
  simp only [seqOf_val]
  rfl
theorem E1_xbc (b : Fin 8) (t : Fin 1024) (k : Fin 2176) :
    E1 V (Proc.devRef .tc main_v15) (ix3 b t k) = (layerOf V).xbc (seqOf V b) t k := by
  rw [Layer.xbc, proj_div, E1]
  after_reads_at
  simp only [seqOf_val]
  rfl
theorem E1_dt (b : Fin 8) (t : Fin 1024) (k : Fin 16) :
    E1 V (Proc.devRef .tc main_v16) (ix3 b t k) = (layerOf V).proj (seqOf V b t) ⟨4224 + k, by omega⟩ := by
  rw [proj_div, E1]
  after_reads_at
  simp only [seqOf_val]
  rfl
theorem E1_zero : E1 V (Proc.devRef .tc main_c) (Shape.Idx.first h_S_) = 0#32 := by
  rw [E1]
  after_reads_simp
  rfl

/-- The padded input at the convolution's row `j` of `t`. -/
theorem E2_past (b : Fin 8) (t : Fin 1024) (k : Fin 2176) (j : ℕ) (hj : j ≤ 2) (u : Fin 1026) (hu : (u : ℕ) = j + t) :
    E2 V (Proc.devRef .tc main_v17) (ix3 b u k) = (layerOf V).past (seqOf V b) (2 - j) t k := by
  rw [E2]
  after_reads_at
  rw [Layer.past]
  by_cases h : 2 ≤ (u : ℕ)
  · have ht : (t : ℕ) - (2 - j) < 1024 := by omega
    rw [dif_pos (by omega), if_neg (by omega), ← E1_xbc V b ⟨_, ht⟩ k]
    congr 3
    omega
  · rw [dif_neg (by omega), if_pos (by omega), E1_zero]
    change ((((0#32 : BitVec 32).toInt : ℝ)) : EReal) = 0
    simp

theorem E3_conv (b : Fin 8) (t : Fin 1024) (k : Fin 2176) :
    silu (E3 V (Proc.devRef .tc main_v42) (ix3 b t k)) = (layerOf V).conv (seqOf V b) t k := by
  rw [E3]
  after_reads_at
  rw [E2_past V b t k 0 (by norm_num) _ (by simp), E2_past V b t k 1 (by norm_num) _ rfl, E2_past V b t k 2 (by norm_num) _ rfl,
    keep1 V main_arg3 (by decide), keep0 V main_arg3 (by decide), keep1 V main_arg4 (by decide), keep0 V main_arg4 (by decide)]
  simp only [Layer.conv, Layer.conv3, Layer.past, Nat.sub_self, Nat.not_lt_zero, if_false, Nat.sub_zero]
  rfl

theorem E4_conv (b : Fin 8) (t : Fin 1024) (k : Fin 2176) :
    E4 V (Proc.devRef .tc main_v43) (ix3 b t k) = (layerOf V).conv (seqOf V b) t k := by
  rw [E4, ← E3_conv]
  after_reads_at
  rfl

theorem E5_dt (b : Fin 8) (t : Fin 1024) (k : Fin 16) :
    softplus (E5 V (Proc.devRef .tc main_v49) (ix3 b t k)) = (layerOf V).dt (seqOf V b) t k := by
  rw [E5]
  after_reads_at
  rw [keep3 V main_v16 (by decide), keep2 V main_v16 (by decide), keep1 V main_v16 (by decide), E1_dt,
    keep3 V main_arg5 (by decide), keep2 V main_arg5 (by decide), keep1 V main_arg5 (by decide), keep0 V main_arg5 (by decide)]
  rfl

theorem E6_dt (b : Fin 8) (t : Fin 1024) (k : Fin 16) :
    E6 V (Proc.devRef .tc main_v50) (ix3 b t k) = (layerOf V).dt (seqOf V b) t k := by
  rw [E6, ← E5_dt]
  after_reads_at
  rw [if_neg (by simp)]
  rfl

theorem E5_X (b : Fin 8) (t : Fin 1024) (k : Fin 2048) :
    E5 V (Proc.devRef .tc main_v44) (ix3 b t k) = (layerOf V).conv (seqOf V b) t ⟨k, by omega⟩ := by
  rw [E5, ← E4_conv]
  after_reads_at
theorem E5_B (b : Fin 8) (t : Fin 1024) (k : Fin 64) :
    E5 V (Proc.devRef .tc main_v45) (ix3 b t k) = (layerOf V).B (seqOf V b) t k := by
  rw [E5, Layer.B, ← E4_conv]
  after_reads_at
theorem E5_C (b : Fin 8) (t : Fin 1024) (k : Fin 64) :
    E5 V (Proc.devRef .tc main_v46) (ix3 b t k) = (layerOf V).C (seqOf V b) t k := by
  rw [E5, Layer.C, ← E4_conv]
  after_reads_at

/-- What the loop carries in: steps first. -/
theorem E7_dt (t : Fin 1024) (b : Fin 8) (k : Fin 16) : E7 V (Proc.devRef .tc main_v60_0) (ix3 t b k) = (layerOf V).dt (seqOf V b) t k := by
  rw [E7, ← E6_dt]
  after_reads_at
  rw [id]
  pointwise
theorem E7_B (t : Fin 1024) (b : Fin 8) (k : Fin 64) : E7 V (Proc.devRef .tc main_v60_1) (ix3 t b k) = (layerOf V).B (seqOf V b) t k := by
  rw [E7, ← E5_B, ← keep5 V main_v45 (by decide)]
  after_reads_at
  rw [id]
  pointwise
theorem E7_C (t : Fin 1024) (b : Fin 8) (k : Fin 64) : E7 V (Proc.devRef .tc main_v60_2) (ix3 t b k) = (layerOf V).C (seqOf V b) t k := by
  rw [E7, ← E5_C, ← keep5 V main_v46 (by decide)]
  after_reads_at
  rw [id]
  pointwise
theorem E7_xh (b : Fin 8) (t : Fin 1024) (k : Fin 16) (p : Fin 128) :
    E7 V (Proc.devRef .tc main_v53) (ix4 b t k p) = (layerOf V).X (seqOf V b) t k p := by
  have e := E5_X V b t ⟨k * 128 + p, by omega⟩
  rw [← keep5 V main_v44 (by decide)] at e
  rw [E7]
  after_reads_at
  rw [e, Layer.X]
  congr 2
  simp only
  omega
theorem E7_X (t : Fin 1024) (b : Fin 8) (k : Fin 16) (p : Fin 128) :
    E7 V (Proc.devRef .tc main_v60_3) (ix4 t b k p) = (layerOf V).X (seqOf V b) t k p := by
  have e := E5_X V b t ⟨k * 128 + p, by omega⟩
  rw [← keep5 V main_v44 (by decide)] at e
  rw [E7]
  after_reads_at
  rw [id]
  pointwise
  rw [Layer.X]
  refine e.trans ?_
  congr 2
  simp only
  omega
theorem E7_a (k : Fin 16) : E7 V (Proc.devRef .tc main_v60_4) (ix1 k) = (layerOf V).a k := by
  rw [E7]
  after_reads_at
  rw [keep5 V main_arg6 (by decide), keep4 V main_arg6 (by decide), keep3 V main_arg6 (by decide), keep2 V main_arg6 (by decide),
    keep1 V main_arg6 (by decide), keep0 V main_arg6 (by decide)]
  rfl
theorem E7_state (b : Fin 8) (k : Fin 16) (p : Fin 128) (n : Fin 64) : E7 V (Proc.devRef .tc main_v60_6) (ix4 b k p n) = (0 : EReal) := by
  rw [E7]
  after_reads_at
  rw [id]
  pointwise

/-! One trip, at its counter's value. -/

section Trip

variable {V} {j : ℕ} (hj : j < 1024) (hV : V (Proc.devRef .tc main_v60_5) = fun _ => Scf.iv 0#32 1#32 j)

theorem counter_toInt (hj : j < 1024) : (Scf.iv 0#32 1#32 j).toInt = (j : Int) := by
  rw [Scf.toInt_iv (lb := 0#32) (ub := 1024#32) (st := 1#32) (by decide) (show j ≤ Scf.trips 0#32 1024#32 1#32 by rw [show Scf.trips 0#32 1024#32 1#32 = 1024 by decide]; omega)]
  simp

theorem start3 (hj : j < 1024) (a : Fin 3) : ((![fun _ => Scf.iv 0#32 1#32 j, constantI S_ 32 0#32, constantI S_ 32 0#32] : Fin 3 → (⟨S_, .i32⟩ : BufTy).Contents (Elt Ideal)) a (Shape.Idx.first h_S_)).toInt
    = (((![j, 0, 0] : Fin 3 → ℕ) a : ℕ) : Int) := by
  fin_cases a
  · exact counter_toInt hj
  all_goals rfl
theorem start4 (hj : j < 1024) (a : Fin 4) : ((![fun _ => Scf.iv 0#32 1#32 j, constantI S_ 32 0#32, constantI S_ 32 0#32, constantI S_ 32 0#32] : Fin 4 → (⟨S_, .i32⟩ : BufTy).Contents (Elt Ideal)) a (Shape.Idx.first h_S_)).toInt
    = (((![j, 0, 0, 0] : Fin 4 → ℕ) a : ℕ) : Int) := by
  fin_cases a
  · exact counter_toInt hj
  all_goals rfl

theorem slices_dt (hj : j < 1024) : S1024x8x16.Slices ![j, 0, 0] S1x8x16 := ⟨rfl, fun a => by fin_cases a <;> simp [S1024x8x16, S1x8x16] <;> omega⟩
theorem slices_BC (hj : j < 1024) : S1024x8x64.Slices ![j, 0, 0] S1x8x64 := ⟨rfl, fun a => by fin_cases a <;> simp [S1024x8x64, S1x8x64] <;> omega⟩
theorem slices_X (hj : j < 1024) : S1024x8x16x128.Slices ![j, 0, 0, 0] S1x8x16x128 :=
  ⟨rfl, fun a => by fin_cases a <;> simp [S1024x8x16x128, S1x8x16x128] <;> omega⟩

include hj hV

theorem step_state (b : Fin 8) (k : Fin 16) (p : Fin 128) (n : Fin 64) :
    (STEP V (Proc.devRef .tc main_v60_6) (ix4 b k p n) : EReal) = stepE (V (Proc.devRef .tc main_v60_4) (ix1 k)) (V (Proc.devRef .tc main_v60_0) (ix3 ⟨j, hj⟩ b k))
      (V (Proc.devRef .tc main_v60_3) (ix4 ⟨j, hj⟩ b k p)) (V (Proc.devRef .tc main_v60_1) (ix3 ⟨j, hj⟩ b n)) (V (Proc.devRef .tc main_v60_6) (ix4 b k p n)) := by
  rw [STEP_main_v60_6, step_main_v60_6, id, res_main_while0b_v112, res_main_while0b_v93, hV,
    Host.dynamicSlice_eq_extractStridedSlice S1x8x16 _ _ ![j, 0, 0] _ (slices_dt hj) (start3 hj),
    Host.dynamicSlice_eq_extractStridedSlice S1x8x64 _ _ ![j, 0, 0] _ (slices_BC hj) (start3 hj),
    Host.dynamicSlice_eq_extractStridedSlice S1x8x16x128 _ _ ![j, 0, 0, 0] _ (slices_X hj) (start4 hj)]
  pointwise
  rfl
theorem step_y (t : Fin 1024) (b : Fin 8) (k : Fin 16) (p : Fin 128) : STEP V (Proc.devRef .tc main_v60_7) (ix4 t b k p) =
    if (t : ℕ) = j then sumE (fun n => STEP V (Proc.devRef .tc main_v60_6) (ix4 b k p n)) (fun n => V (Proc.devRef .tc main_v60_2) (ix3 ⟨j, hj⟩ b n))
    else V (Proc.devRef .tc main_v60_7) (ix4 t b k p) := by
  have e : res_main_while0b_v112 V = STEP V (Proc.devRef .tc main_v60_6) := (STEP_main_v60_6 V).symm
  rw [STEP_main_v60_7, step_main_v60_7, id, e]
  generalize STEP V (Proc.devRef .tc main_v60_6) = x
  rw [hV, Host.dynamicSlice_eq_extractStridedSlice S1x8x64 _ _ ![j, 0, 0] _ (slices_BC hj) (start3 hj),
    WordCmp.dynamicUpdateSlice_eq_update _ _ _ _ ![j, 0, 0, 0] (slices_X hj) (start4 hj)]
  pointwise
  by_cases ht : (t : ℕ) = j
  · rw [if_pos ht]
    refine dif_pos fun a => ?_
    change Fin 4 at a
    fin_cases a <;> simp [ix4, ht]
  · rw [if_neg ht]
    refine dif_neg fun h => ht ?_
    have h0 : j ≤ (t : ℕ) ∧ (t : ℕ) < j + 1 := h (0 : Fin 4)
    omega

end Trip

end Cert.ReferenceIdeal.Value
-- ==== Proof.Loop.lean ====
module

public import proofs.«01_k».proof.Proof.Ref
import Idealize.ShloMosaic.Lib.StableHlo.ReadAt

/-! The reference's loop, trip by trip, and the stretches behind it: the result at an index. -/

@[expose] public section

set_option maxRecDepth 16384

noncomputable section

open Cert.ReferenceIdeal Cert.ReferenceIdeal.Gen Idealize.ShloMosaic Idealize.ShloMosaic.TcCoe Idealize.SL.Sem Mamba
open Idealize.ShloMosaic.StableHlo

namespace Cert.ReferenceIdeal.Value

variable (V : Valuation τ sig (Elt Ideal))

/-- What holds of the carried buffers before trip `j`. -/
structure Inv (j : ℕ) (S : Valuation τ sig (Elt Ideal)) : Prop where
  dt : S (Proc.devRef .tc main_v60_0) = E7 V (Proc.devRef .tc main_v60_0)
  B : S (Proc.devRef .tc main_v60_1) = E7 V (Proc.devRef .tc main_v60_1)
  C : S (Proc.devRef .tc main_v60_2) = E7 V (Proc.devRef .tc main_v60_2)
  xs : S (Proc.devRef .tc main_v60_3) = E7 V (Proc.devRef .tc main_v60_3)
  a : S (Proc.devRef .tc main_v60_4) = E7 V (Proc.devRef .tc main_v60_4)
  counter : S (Proc.devRef .tc main_v60_5) = fun _ => Scf.iv 0#32 1#32 j
  state : ∀ (b : Fin 8) (k : Fin 16) (p : Fin 128) (n : Fin 64),
    S (Proc.devRef .tc main_v60_6) (ix4 b k p n) = (layerOf V).state (seqOf V b) j k p n
  y : ∀ (t : Fin 1024) (b : Fin 8) (k : Fin 16) (p : Fin 128), (t : ℕ) < j → S (Proc.devRef .tc main_v60_7) (ix4 t b k p)
    = sumE (fun n => (layerOf V).state (seqOf V b) (t + 1) k p n) (fun n => (layerOf V).C (seqOf V b) t n)

variable {V}

theorem Inv.step {j : ℕ} (hj : j < 1024) {X : Valuation τ sig (Elt Ideal)} (h : Inv V j X) : Inv V (j + 1) (STEP X) := by
  have st : ∀ (b : Fin 8) (k : Fin 16) (p : Fin 128) (n : Fin 64),
      STEP X (Proc.devRef .tc main_v60_6) (ix4 b k p n) = (layerOf V).state (seqOf V b) (j + 1) k p n := by
    intro b k p n
    rw [step_state hj h.counter, h.state, h.a, h.dt, h.xs, h.B, E7_a, E7_dt, E7_X, E7_B]
    rfl
  refine ⟨(STEP_main_v60_0 X).trans h.dt, (STEP_main_v60_1 X).trans h.B, (STEP_main_v60_2 X).trans h.C, (STEP_main_v60_3 X).trans h.xs,
    (STEP_main_v60_4 X).trans h.a, ?_, st, ?_⟩
  · rw [STEP_main_v60_5, step_main_v60_5, h.counter, Scf.iv_succ]
    rfl
  · intro t b k p ht
    rw [step_y hj h.counter]
    by_cases e : (t : ℕ) = j
    · rw [if_pos e]
      subst e
      simp only [st, h.C]
      exact congrArg _ (funext fun n => E7_C V t b n)
    · rw [if_neg e, h.y t b k p (by omega)]

theorem Inv.start : Inv V 0 (E7 V) where
  dt := rfl
  B := rfl
  C := rfl
  xs := rfl
  a := rfl
  counter := by
    rw [E7]
    after_reads_simp
    rfl
  state b k p n := E7_state V b k p n
  y t b k p h := absurd h (Nat.not_lt_zero _)

theorem inv (j : ℕ) (hj : j ≤ 1024) : Inv V j (STEP^[j] (E7 V)) := by
  induction j with
  | zero => exact Inv.start
  | succ j ih =>
    rw [Function.iterate_succ_apply']
    exact (ih (by omega)).step (by omega)

/-- The results of the operations in the loop. -/
def loopW : List (Ref sig .tc) :=
  condOps_W ++ while0Ops0_W ++ while0Ops0_1_W ++ while0Ops0_2_W ++ while0Ops0_3_W ++ while0Ops0_4_W ++ while0Ops0_5_W ++ while0Ops0_6_W

/-- A buffer that the loop does not write is carried through a trip. -/
theorem trip_keep (X : Valuation τ sig (Elt Ideal)) (r : Ref sig .tc) (h : r ∉ loopW) :
    afterL bodyI (after condOps X) (Proc.devRef .tc r) = X (Proc.devRef .tc r) := by
  simp only [loopW, List.mem_append, not_or] at h
  obtain ⟨⟨⟨⟨⟨⟨⟨hc, h0⟩, h1⟩, h2⟩, h3⟩, h4⟩, h5⟩, h6⟩ := h
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

section Memory

variable (m : (ℓ : Loc nD τ sig) → Buf (Elt Ideal) ℓ) (c : Dev nD)

/-- The launch's valuation. -/
def launch : Valuation τ sig (Elt Ideal) := fun b => m (c, b)

theorem entry_eq : entryContents preI m c = E7 (launch m c) := rfl

theorem atK_keep (r : Ref sig .tc) (h : r ∉ loopW) (k : ℕ) : atK m k c (Proc.devRef .tc r) = E7 (launch m c) (Proc.devRef .tc r) := by
  induction k with
  | zero => rfl
  | succ k ih =>
    rw [← ih, ← trip_keep (atK m k c) r h]
    rfl

/-- The results of the operations before the loop. -/
def preW : List (Ref sig .tc) := hostOps0_W ++ hostOps0_1_W ++ hostOps0_2_W ++ hostOps0_3_W ++ hostOps0_4_W ++ hostOps0_5_W ++ hostOps0_6_W

variable (V) in
theorem E7_keep (r : Ref sig .tc) (h : r ∉ preW) : E7 V (Proc.devRef .tc r) = V (Proc.devRef .tc r) := by
  simp only [preW, List.mem_append, not_or] at h
  obtain ⟨⟨⟨⟨⟨⟨h0, h1⟩, h2⟩, h3⟩, h4⟩, h5⟩, h6⟩ := h
  rw [keep6 V r h6, keep5 V r h5, keep4 V r h4, keep3 V r h3, keep2 V r h2, keep1 V r h1, keep0 V r h0]

/-- The valuation behind the loop. -/
def done : Valuation τ sig (Elt Ideal) := after condOps (atK m 1024 c)

theorem done_keep (r : Ref sig .tc) (h : r ∉ loopW) : done m c (Proc.devRef .tc r) = E7 (launch m c) (Proc.devRef .tc r) := by
  have hc : r ∉ condOps_W := by
    simp only [loopW, List.mem_append, not_or] at h
    exact h.1.1.1.1.1.1.1
  rw [done, after_of_writes_sub condOps _ condOps_writes hc, atK_keep m c r h]

theorem done_arg (r : Ref sig .tc) (h : r ∉ loopW) (h' : r ∉ preW) : done m c (Proc.devRef .tc r) = launch m c (Proc.devRef .tc r) :=
  (done_keep m c r h).trans (E7_keep _ r h')

theorem done_y (t : Fin 1024) (b : Fin 8) (k : Fin 16) (p : Fin 128) : done m c (Proc.devRef .tc main_v60_7) (ix4 t b k p)
    = sumE (fun n => (layerOf (launch m c)).state (seqOf (launch m c) b) (t + 1) k p n) (fun n => (layerOf (launch m c)).C (seqOf (launch m c) b) t n) := by
  rw [done, cond_keeps _ main_v60_7 (by decide), atK_agree m c 1024 main_v60_7 (by decide), entry_eq]
  exact (inv 1024 le_rfl).y t b k p t.2

theorem done_gate (b : Fin 8) (t : Fin 1024) (k : Fin 2048) :
    done m c (Proc.devRef .tc main_v14) (ix3 b t k) = (layerOf (launch m c)).gate (seqOf (launch m c) b) t k := by
  rw [done_keep m c main_v14 (by decide), keep6 _ main_v14 (by decide), keep5 _ main_v14 (by decide), keep4 _ main_v14 (by decide),
    keep3 _ main_v14 (by decide), keep2 _ main_v14 (by decide), keep1 _ main_v14 (by decide), E1_gate]

/-- Behind the loop: the scan's output with the skip, by columns, and the gate. -/
def F1 := after hostOps0_7 (done m c)
def F2 := after hostOps0_8 (F1 m c)

/-- The results of the two stretches. -/
def skipW : List (Ref sig .tc) := [main_v61, main_v62, main_v63, main_v64, main_v65, main_v66]
def gateW : List (Ref sig .tc) :=
  [main_call8_v0, main_call8_v1, main_call8_cst, main_call8_v2, main_call8_v3, main_call8_cst_0, main_call8_v4, main_call8_v5, main_v67]

theorem F1_keep (r : Ref sig .tc) (h : r ∉ skipW) : F1 m c (Proc.devRef .tc r) = done m c (Proc.devRef .tc r) :=
  after_of_writes_sub (W := skipW) hostOps0_7 _ (forall_writes_sub_of_map rfl) h
theorem F2_keep (r : Ref sig .tc) (h : r ∉ gateW) : F2 m c (Proc.devRef .tc r) = F1 m c (Proc.devRef .tc r) :=
  after_of_writes_sub (W := gateW) hostOps0_8 _ (forall_writes_sub_of_map rfl) h

theorem F2_y (b : Fin 8) (t : Fin 1024) (k : Fin 2048) :
    F2 m c (Proc.devRef .tc main_v66) (ix3 b t k) = (layerOf (launch m c)).yCol (seqOf (launch m c) b) t k := by
  rw [F2_keep m c main_v66 (by decide), F1]
  after_reads_at
  rw [done_y, done_arg m c main_arg7 (by decide) (by decide), done_keep m c main_v53 (by decide), E7_xh]
  rfl
theorem F2_gate (b : Fin 8) (t : Fin 1024) (k : Fin 2048) :
    F2 m c (Proc.devRef .tc main_v67) (ix3 b t k) = silu ((layerOf (launch m c)).gate (seqOf (launch m c) b) t k) := by
  rw [← done_gate, ← F1_keep m c main_v14 (by decide), F2]
  after_reads_at
  rfl
theorem F2_arg (r : Ref sig .tc) (h : r ∉ loopW) (h' : r ∉ preW) (h7 : r ∉ skipW) (h8 : r ∉ gateW) :
    F2 m c (Proc.devRef .tc r) = launch m c (Proc.devRef .tc r) :=
  (F2_keep m c r h8).trans ((F1_keep m c r h7).trans (done_arg m c r h h'))

/-- The two heads' weights and biases, side by side. -/
def headW (d : Fin 1024) (o : Fin 1536) : EReal :=
  if h : (o : ℕ) < 512 then launch m c (Proc.devRef .tc main_arg10) (ix2 d ⟨o, h⟩) else launch m c (Proc.devRef .tc main_arg12) (ix2 d ⟨o - 512, by omega⟩)
def headB (o : Fin 1536) : EReal :=
  if h : (o : ℕ) < 512 then launch m c (Proc.devRef .tc main_arg11) (ix1 ⟨o, h⟩) else launch m c (Proc.devRef .tc main_arg13) (ix1 ⟨o - 512, by omega⟩)

/-- The last stretch from what it finds. -/
theorem heads (X : Valuation τ sig (Elt Ideal)) (L : Layer) (b : Fin 8) (t : Fin 1024) (o : Fin 1536) (r : Fin 1024 → EReal) (y gate : Fin 2048 → EReal)
    (hr : ∀ d, X (Proc.devRef .tc main_arg0) (ix3 b t d) = r d) (hy : ∀ k, X (Proc.devRef .tc main_v66) (ix3 b t k) = y k)
    (hg : ∀ k, X (Proc.devRef .tc main_v67) (ix3 b t k) = silu (gate k))
    (hn : ∀ k, X (Proc.devRef .tc main_arg8) (ix1 k) = L.gnw k) (hw : ∀ k d, X (Proc.devRef .tc main_arg9) (ix2 k d) = L.outw k d)
    (hW : ∀ d, headW m c d o = if h : (o : ℕ) < 512 then X (Proc.devRef .tc main_arg10) (ix2 d ⟨o, h⟩) else X (Proc.devRef .tc main_arg12) (ix2 d ⟨o - 512, by omega⟩))
    (hB : headB m c o = if h : (o : ℕ) < 512 then X (Proc.devRef .tc main_arg11) (ix1 ⟨o, h⟩) else X (Proc.devRef .tc main_arg13) (ix1 ⟨o - 512, by omega⟩)) :
    after hostOps0_9 X (Proc.devRef .tc main_v92) (ix3 b t o) = (∑ d, L.outRow r (Layer.gated gate y) d * headW m c d o) + headB m c o := by
  have e : ∀ d, L.outRow r (Layer.gated gate y) d = r d + ∑ k, y k * silu (gate k) * Ideal.rsqrt (Ideal.div (∑ k, y k * silu (gate k) * (y k * silu (gate k)))
      (Ideal.ofBits .f32 0x45000000#32) + Ideal.ofBits .f32 0x358637BD#32) * L.gnw k * L.outw k d := fun d => outRow_div L r _ d
  after_reads_at
  simp only [hr, hy, hg, hn, hw, e, hW, hB]
  by_cases h : (o : ℕ) < 512
  · simp only [dif_pos h]
  · simp only [dif_neg h]

theorem result (b : Fin 8) (t : Fin 1024) (o : Fin 1536) : finalContents condOps preI bodyI postI 1024 m c (Proc.devRef .tc main_v92) (ix3 b t o)
    = (∑ d, (layerOf (launch m c)).out (seqOf (launch m c) b) t d * headW m c d o) + headB m c o := by
  refine heads m c (F2 m c) (layerOf (launch m c)) b t o (seqOf (launch m c) b t) _ _ (fun d => ?_) (fun k => F2_y m c b t k) (fun k => F2_gate m c b t k)
    (fun k => ?_) (fun k d => ?_) (fun d => ?_) ?_
  · rw [F2_arg m c main_arg0 (by decide) (by decide) (by decide) (by decide), seqOf_val]
  · rw [F2_arg m c main_arg8 (by decide) (by decide) (by decide) (by decide)]
    rfl
  · rw [F2_arg m c main_arg9 (by decide) (by decide) (by decide) (by decide)]
    rfl
  · rw [F2_arg m c main_arg10 (by decide) (by decide) (by decide) (by decide), F2_arg m c main_arg12 (by decide) (by decide) (by decide) (by decide)]
    rfl
  · rw [F2_arg m c main_arg11 (by decide) (by decide) (by decide) (by decide), F2_arg m c main_arg13 (by decide) (by decide) (by decide) (by decide)]
    rfl

/-- The results of the last stretch. -/
def headsW : List (Ref sig .tc) :=
  [main_v68, main_v69, main_cst_6, main_v70, main_v71, main_cst_7, main_v72, main_v73, main_cst_8, main_v74, main_v75, main_v76, main_v77, main_v78, main_v79,
    main_v80, main_v81, main_v82, main_v83, main_v84, main_v85, main_v86, main_v87, main_v88, main_v89, main_v90, main_v91, main_v92]

/-- The reference leaves a buffer that no operation writes. -/
theorem kept (r : Ref sig .tc) (h : r ∉ loopW ∧ r ∉ preW ∧ r ∉ skipW ∧ r ∉ gateW ∧ r ∉ headsW) :
    finalContents condOps preI bodyI postI 1024 m c (Proc.devRef .tc r) = m (c, Proc.devRef .tc r) :=
  (after_of_writes_sub (W := headsW) hostOps0_9 (F2 m c) (forall_writes_sub_of_map rfl) h.2.2.2.2).trans
    (F2_arg m c r h.1 h.2.1 h.2.2.1 h.2.2.2.1)

end Memory

end Cert.ReferenceIdeal.Value
-- ==== Proof.Finite.lean ====
module

public import proofs.«01_k».proof.Proof.Common
public import proofs.«01_k».proof.Proof.Gen.Pre_finite
public import Idealize.ShloMosaic.Lib.Pipeline.ValueKit
import Idealize.ShloMosaic.Lib.ReduceAll

/-! What the precondition says: every element of the first seven arguments is a real number. -/

@[expose] public section

set_option maxRecDepth 16384

noncomputable section

open Cert.Pre_finite Cert.Pre_finite.Facts Idealize.ShloMosaic Mamba

namespace Cert.Pre_finite

variable [hf : Facts]

theorem real_of_fn {a0 : FVec Ideal S8x1024x1024 .f32} {a1 : FVec Ideal S1024 .f32} {a2 : FVec Ideal S1024x4240 .f32} {a3 : FVec Ideal S3x1x2176 .f32}
    {a4 : FVec Ideal S2176 .f32} {a5 a6 a7 : FVec Ideal S16 .f32} {a8 : FVec Ideal S2048 .f32} {a9 : FVec Ideal S2048x1024 .f32}
    {a10 : FVec Ideal S1024x512 .f32} {a11 : FVec Ideal S512 .f32} {a12 : FVec Ideal S1024x1024 .f32} {a13 : FVec Ideal S1024 .f32}
    (h : fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) := by
  have e := congrFun h (Shape.Idx.first h_S_)
  dsimp only [fn, fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => by funext k; exact k.elim0⟩
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i),
    fun i => real_of_lt (Host.reduce_andi_all _ _ _ _ _ e4 i), fun i => real_of_lt (Host.reduce_andi_all _ _ _ _ _ e5 i),
    fun i => real_of_lt (Host.reduce_andi_all _ _ _ _ _ e6 i)⟩

end Cert.Pre_finite
-- ==== Proof.LastClaims.lean ====
/-
  The last layer's launch with the heads: the reference's run, and the two programs' results as one array.
-/
module

public import proofs.«01_k».proof.Defs
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Blocks
public import proofs.«01_k».proof.Proof.Loop
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof.Last

open Idealize.ShloMosaic Idealize.ShloMosaic.TcCoe Idealize.SL.Sem Mamba

section Reference

open Cert.ReferenceIdeal Cert.ReferenceIdeal.Gen Cert.ReferenceIdeal.Value

/-- The reference's result as the claim names it. -/
def refResult (m : (ℓ : Loc nD τ sig) → Buf (Elt Ideal) ℓ) (c : Dev nD) : Buf (Elt Ideal) ((c.tc : Thread nD τ).loc main_v92) :=
  StableHlo.finalContents condOps preI bodyI postI 1024 m c (Proc.devRef .tc main_v92)

/-- The reference's run: its result, and its arguments as they were. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v92) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine (θ_run defs _ _).mono (fun r h => ⟨fun c => ⟨h c main_v92 rfl, ?_⟩, sem_eq_zero_of_no_sems rfl _⟩) (run_fold m g)
  have k : ∀ b : Ref sig .tc, (Proc.devRef .tc b : DevRef τ sig).isScoped = false → (b ∉ Value.loopW ∧ b ∉ Value.preW ∧ b ∉ Value.skipW ∧ b ∉ Value.gateW ∧ b ∉ Value.headsW) →
      r.2.mem ((c.tc : Thread nD τ).loc b) = m ((c.tc : Thread nD τ).loc b) := fun b hb hw => (h c b hb).trans (Value.kept m c b hw)
  exact ⟨k main_arg0 rfl (by decide), k main_arg1 rfl (by decide), k main_arg2 rfl (by decide), k main_arg3 rfl (by decide), k main_arg4 rfl (by decide),
    k main_arg5 rfl (by decide), k main_arg6 rfl (by decide), k main_arg7 rfl (by decide), k main_arg8 rfl (by decide), k main_arg9 rfl (by decide),
    k main_arg10 rfl (by decide), k main_arg11 rfl (by decide), k main_arg12 rfl (by decide), k main_arg13 rfl (by decide)⟩

end Reference

theorem frame_reference : Cert.quiescent_ReferenceIdeal (hReferenceIdeal := Cert.ReferenceIdeal.Gen.facts) := fun m g _ =>
  (θ_run Cert.ReferenceIdeal.defs _ _).mono (fun _ h => ⟨fun c => (h.1 c).2, h.2⟩) (ref_run m g)

/-- The precondition, for the layer and the sequences that the kernel's memory holds. -/
theorem real_args {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) :
    (Cert.KernelIdeal.Value.layer m c).Real ∧ ∀ b s d, IsReal (Cert.KernelIdeal.Value.seq m c b s d) := by
  obtain ⟨h0, h1, h2, h3, h4, h5, h6⟩ := Cert.Pre_finite.real_of_fn (hf := Cert.Pre_finite.Gen.facts) (h c)
  refine ⟨⟨fun d => h1 _, fun d k => h2 _, fun s k => h3 _, fun k => h4 _, fun k => h5 _, fun k => h6 _⟩, fun b s d => ?_⟩
  unfold Cert.KernelIdeal.Value.seq
  split
  · exact h0 _
  · exact IsReal.zero

section Results

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The two programs' results are one array when their arguments are: each is the layer and its heads over the same rows. -/
theorem results_eq (h : Cert.Pre_KernelIdeal_finite (hPre_finite := Cert.Pre_finite.Gen.facts) m) (c : Dev Cert.KernelIdeal.nD)
    (hl : Cert.ReferenceIdeal.Value.layerOf (Cert.ReferenceIdeal.Value.launch m' c) = Cert.KernelIdeal.Value.layer m c)
    (hs : Cert.ReferenceIdeal.Value.seqOf (Cert.ReferenceIdeal.Value.launch m' c) = Cert.KernelIdeal.Value.seq m c)
    (hW : Cert.ReferenceIdeal.Value.headW m' c = Cert.KernelIdeal.Value.headW m c)
    (hB : Cert.ReferenceIdeal.Value.headB m' c = Cert.KernelIdeal.Value.headB m c) : refResult m' c = Cert.KernelIdeal.Value.G15 m c := by
  obtain ⟨hL, hh⟩ := real_args h c
  funext y
  idx_vars y
  refine (Cert.ReferenceIdeal.Value.result m' c y0 y1 y2).trans ?_
  rw [hl, hs, hW, hB]
  exact (Cert.KernelIdeal.Value.result hL hh y0 y1 y2).symm

end Results

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from (Cert.KernelIdeal.Value.run m g)
  · run_from (ref_run m' g')
    obtain ⟨h0, h1, h2, h3, h4, h5, h6, h7, h8, h9, h10, h11, h12, h13⟩ := hagree c
    refine results_eq hpre c ?_ ?_ ?_ ?_
    · unfold Cert.ReferenceIdeal.Value.layerOf Cert.KernelIdeal.Value.layer
      congr 1
      · exact funext fun d => congrFun h1 _
      · exact funext fun d => funext fun k => congrFun h2 _
      · exact funext fun s => funext fun k => congrFun h3 _
      · exact funext fun k => congrFun h4 _
      · exact funext fun k => congrFun h5 _
      · exact funext fun k => congrFun h6 _
      · exact funext fun k => congrFun h7 _
      · exact funext fun k => congrFun h8 _
      · exact funext fun k => funext fun d => congrFun h9 _
    · refine funext fun b => funext fun s => funext fun d => ?_
      unfold Cert.ReferenceIdeal.Value.seqOf Cert.KernelIdeal.Value.seq
      split
      · exact congrFun h0 _
      · rfl
    · refine funext fun d => funext fun o => ?_
      unfold Cert.ReferenceIdeal.Value.headW Cert.KernelIdeal.Value.headW
      split
      · exact congrFun h10 _
      · exact congrFun h12 _
    · refine funext fun o => ?_
      unfold Cert.ReferenceIdeal.Value.headB Cert.KernelIdeal.Value.headB
      split
      · exact congrFun h11 _
      · exact congrFun h13 _

end Cert.Proof.Last

end
-- ==== Proof.MidChunk.lean ====
/-
  One grid point of the middle layers' launch: the values its body forms from a chunk of 256 rows, read through `Mamba.Layer`. The chunk starts at time `t0`
  of the sequence `h`; `halo` holds the two rows of the convolution's input before it.
-/
module

public import proofs.«01_k».proof.Proof.Gen.Kernel2Ideal.Value
public import proofs.«01_k».proof.Proof.Common
public import Idealize.ShloMosaic.Lib.Pipeline.ValueKit

@[expose] public section

set_option maxRecDepth 16384

noncomputable section

open Cert.Kernel2Ideal Cert.Kernel2Ideal.Gen Idealize.ShloMosaic Idealize.ShloMosaic.TcCoe Idealize.SL.Sem Mamba
open Idealize.ShloMosaic.Pipeline (Dat)

namespace Cert.Kernel2Ideal.Value

/-- What the body reads at a grid point, by coordinates: the rows, the parameters and the halo. -/
structure Reads (L : Layer) (h : ℕ → Fin 1024 → EReal) (t0 : ℕ) (x : FVec Ideal S1x256x1024 .f32) (ones : FVec Ideal S1024x128 .bf16)
    (nw : FVec Ideal S1x1024 .f32) (W : FVec Ideal S1024x4240 .bf16) (halo : FVec Ideal S2x2176 .f32) (w0 w1 w2 cb : FVec Ideal S1x2176 .f32)
    (dtb alog : FVec Ideal S1x16 .f32) : Prop where
  x : ∀ i d, x (ix3 0 i d) = h (t0 + i) d
  ones : ∀ d j, ones (ix2 d j) = 1
  nw : ∀ d, nw (ix2 0 d) = L.nw d
  W : ∀ d k, W (ix2 d k) = L.W d k
  halo : ∀ (r : Fin 2) k, halo (ix2 r k) = L.past h (2 - r) t0 k
  w0 : ∀ k, w0 (ix2 0 k) = L.cw 0 k
  w1 : ∀ k, w1 (ix2 0 k) = L.cw 1 k
  w2 : ∀ k, w2 (ix2 0 k) = L.cw 2 k
  cb : ∀ k, cb (ix2 0 k) = L.cb k
  dtb : ∀ k, dtb (ix2 0 k) = L.dtb k
  alog : ∀ k, alog (ix2 0 k) = L.alog k

section

variable {L : Layer} {h : ℕ → Fin 1024 → EReal} {t0 : ℕ} {x : FVec Ideal S1x256x1024 .f32} {ones : FVec Ideal S1024x128 .bf16}
  {nw : FVec Ideal S1x1024 .f32} {W : FVec Ideal S1024x4240 .bf16} {halo : FVec Ideal S2x2176 .f32} {w0 w1 w2 cb : FVec Ideal S1x2176 .f32}
  {dtb alog : FVec Ideal S1x16 .f32}
variable (R : Reads L h t0 x ones nw W halo w0 w1 w2 cb dtb alog)

include R

theorem x_read (i : Fin 256) (d : Fin 1024) : k0_pay4 (F := Ideal) x (ix2 i d) = h (t0 + i) d := by
  pointwise [k0_pay4]
  exact R.x i d

/-- The input projection. -/
theorem proj_read (i : Fin 256) (k : Fin 4240) : k0_pay5 (F := Ideal) x ones nw W (ix2 i k) = L.proj (h (t0 + i)) k := by
  pointwise [k0_pay5]
  simp only [x_read R, R.ones, R.nw, R.W, mul_one, dite_eq_ite, ite_self, Layer.proj, scale, inv1024, eps]

theorem gate_read (i : Fin 256) (k : Fin 2048) : k0_pay6 (F := Ideal) x ones nw W (ix2 i k) = L.gate h (t0 + i) k := by
  pointwise [k0_pay6]
  exact proj_read R _ _

theorem xbc_read (i : Fin 256) (k : Fin 2176) : k0_pay7 (F := Ideal) x ones nw W (ix2 i k) = L.xbc h (t0 + i) k := by
  pointwise [k0_pay7]
  exact proj_read R _ _

theorem dtr_read (i : Fin 256) (k : Fin 16) : k0_pay8 (F := Ideal) x ones nw W (ix2 i k) = L.proj (h (t0 + i)) ⟨4224 + k, by omega⟩ := by
  pointwise [k0_pay8]
  exact proj_read R _ _

/-- The convolution's input one row and two rows back: the halo's rows, then the chunk's own. -/
theorem past1_read (i : Fin 256) (k : Fin 2176) : k0_pay9 (F := Ideal) x ones nw W halo (ix2 i k) = L.past h 1 (t0 + i) k := by
  pointwise [k0_pay9]
  by_cases hi : (i : ℕ) < 1
  · rw [dif_pos hi, R.halo, L.past_of_lt h hi]
    exact congrArg (fun s => L.past h s t0 k) (show 2 - (1 + (i : ℕ)) = 1 - i by omega)
  · rw [dif_neg hi, xbc_read R, L.past_of_le h (by omega)]

theorem past2_read (i : Fin 256) (k : Fin 2176) : k0_pay10 (F := Ideal) x ones nw W halo w0 (ix2 i k) = L.past h 2 (t0 + i) k * L.cw 0 k := by
  pointwise [k0_pay10]
  rw [R.w0]
  by_cases hi : (i : ℕ) < 2
  · rw [dif_pos hi, R.halo, L.past_of_lt h hi]
  · rw [dif_neg hi, xbc_read R, L.past_of_le h (by omega)]

/-- The convolution and its activation. -/
theorem conv_read (i : Fin 256) (k : Fin 2176) :
    k0_pay12 (F := Ideal) (k0_pay7 x ones nw W) (k0_pay9 x ones nw W halo) (k0_pay10 x ones nw W halo w0) w1 w2 cb (ix2 i k)
      = L.conv h (t0 + i) k := by
  pointwise [k0_pay12]
  simp only [xbc_read R, past1_read R, past2_read R, R.w1, R.w2, R.cb]
  rfl

theorem x_lanes (i : Fin 256) (k : Fin 2048) :
    k0_pay13 (F := Ideal) (k0_pay7 x ones nw W) (k0_pay9 x ones nw W halo) (k0_pay10 x ones nw W halo w0) w1 w2 cb (ix2 i k)
      = L.conv h (t0 + i) ⟨k, by omega⟩ := by
  pointwise [k0_pay13]
  exact conv_read R _ _

/-- The two projections of the state: 64 lanes each, zero behind. -/
theorem b_lanes (i : Fin 256) (n : Fin 128) :
    k0_pay15 (F := Ideal) (k0_pay7 x ones nw W) (k0_pay9 x ones nw W halo) (k0_pay10 x ones nw W halo w0) w1 w2 cb (ix2 i n)
      = wide (L.B h (t0 + i)) n := by
  pointwise [k0_pay15, k0_pay14]
  rw [conv_read R, wide, select_lt (by omega) (by norm_num)]
  rfl

theorem c_lanes (i : Fin 256) (n : Fin 128) :
    k0_pay16 (F := Ideal) (k0_pay7 x ones nw W) (k0_pay9 x ones nw W halo) (k0_pay10 x ones nw W halo w0) w1 w2 cb (ix2 i n)
      = wide (L.C h (t0 + i)) n := by
  pointwise [k0_pay16, k0_pay14]
  rw [wide, select_lt (by omega) (by norm_num)]
  by_cases hn : (n : ℕ) < 64
  · simp only [if_pos hn, dif_pos hn, conv_read R, Layer.C]
    exact congrArg (L.conv h (t0 + i)) (Fin.ext (by show 2048 + (64 + (n : ℕ)) = 2112 + n; omega))
  · rw [if_neg hn, dif_neg hn]

theorem g_read (i j : Fin 256) :
    k0_pay17 (F := Ideal) (k0_pay7 x ones nw W) (k0_pay9 x ones nw W halo) (k0_pay10 x ones nw W halo w0) w1 w2 cb (ix2 i j)
      = ∑ n, L.C h (t0 + i) n * L.B h (t0 + j) n := by
  pointwise [k0_pay17]
  simp only [b_lanes R, c_lanes R]
  exact sum_wide _ _

/-- The layer's output row. -/
theorem out_read (Y : FVec Ideal S256x2048 .f32) (o2 : FVec Ideal S2048x128 .bf16) (gnw : FVec Ideal S1x2048 .f32) (outw : FVec Ideal S2048x1024 .bf16)
    (hY : ∀ i k, Y (ix2 i k) = L.yCol h (t0 + i) k) (ho : ∀ d j, o2 (ix2 d j) = 1)
    (hg : ∀ k, gnw (ix2 0 k) = L.gnw k) (hw : ∀ k d, outw (ix2 k d) = L.outw k d) (i : Fin 256) (o : Fin 1024) :
    k0_pay1 (F := Ideal) (k0_pay4 x) (k0_pay6 x ones nw W) Y (k0_pay123 (k0_pay6 x ones nw W)) o2 gnw outw (ix3 0 i o)
      = L.out h (t0 + i) o := by
  have hG : ∀ i k, mulf Y (mulf (k0_pay6 x ones nw W) (k0_pay123 (k0_pay6 x ones nw W))) (ix2 i k)
      = Layer.gated (L.gate h (t0 + i)) (L.yCol h (t0 + i)) k := by
    intro i k
    pointwise [k0_pay123]
    rw [hY, gate_read R]
    rfl
  simp only [k0_pay1]
  generalize mulf Y (mulf (k0_pay6 x ones nw W) (k0_pay123 (k0_pay6 x ones nw W))) = G at hG ⊢
  have hx := x_read R
  generalize k0_pay4 (F := Ideal) x = xr at hx ⊢
  generalize hrp : concatenate S256x2048 1 _ _ = rp
  have hr : ∀ i k, rp (ix2 i k) = scale inv2048 (Layer.gated (L.gate h (t0 + i)) (L.yCol h (t0 + i))) := by
    intro i k
    rw [← hrp]
    refine repeat_read _ (fun i => scale inv2048 (Layer.gated (L.gate h (t0 + i)) (L.yCol h (t0 + i)))) (fun i j => ?_) _ i k
    pointwise
    simp only [hG, ho, mul_one]
    rfl
  pointwise
  simp only [hx, hr, hG, hg, hw]
  rfl

variable {z : Ideal .f32} (hz : z = 0)
include hz

/-- The time step; the kernel's `z` is zero. -/
theorem dt_read (i : Fin 256) (k : Fin 16) :
    k0_pay20 (F := Ideal) (k0_pay18 (k0_pay8 x ones nw W) dtb) z (k0_pay19 (k0_pay8 x ones nw W) dtb) (ix2 i k)
      = L.dt h (t0 + i) k := by
  pointwise [k0_pay20, k0_pay18, k0_pay19]
  simp only [dtr_read R, R.dtb, hz, sub_zero, ne_eq, not_true_eq_false, if_false, zero_sub]
  rfl

/-- The running sums of `dt * a`, all but the last doubling. -/
theorem sums_read (i : Fin 256) (k : Fin 16) :
    k0_pay21 (F := Ideal) (k0_pay18 (k0_pay8 x ones nw W) dtb) z (k0_pay19 (k0_pay8 x ones nw W) dtb) alog (ix2 i k)
      = window (fun j => L.dt h (t0 + j) k * L.a k) 128 i := by
  simp only [k0_pay21]
  refine double_read 64 _ k _ _ _ _ (double_read 32 _ k _ _ _ _ (double_read 16 _ k _ _ _ _ (double_read 8 _ k _ _ _ _
    (double_read 4 _ k _ _ _ _ (double_read 2 _ k _ _ _ _ (double_read 1 _ k _ _ _ _ ?_ ?_) ?_) ?_) ?_) ?_) ?_) ?_ i
  · intro i
    pointwise
    rw [dt_read R hz, R.alog, window_one, zero_sub]
    rfl
  all_goals
    intro v i
    pointwise

theorem cum_read (i : Fin 256) (k : Fin 16) :
    k0_pay23 (F := Ideal) (k0_pay21 (k0_pay18 (k0_pay8 x ones nw W) dtb) z (k0_pay19 (k0_pay8 x ones nw W) dtb) alog)
      k0_pay22 (ix2 i k) = cumE (L.a k) (fun t => L.dt h t k) t0 (i + 1) := by
  simp only [k0_pay23]
  refine (double_read 128 _ k _ _ _ _ (fun i => sums_read R hz i k) ?_ i).trans (window_full _ _ _ (by omega))
  intro v i
  pointwise [k0_pay22]

theorem exp_read (i : Fin 256) (k : Fin 16) :
    k0_pay24 (F := Ideal) (k0_pay21 (k0_pay18 (k0_pay8 x ones nw W) dtb) z (k0_pay19 (k0_pay8 x ones nw W) dtb) alog)
      k0_pay22 (ix2 i k) = Ideal.exp (cumE (L.a k) (fun t => L.dt h t k) t0 (i + 1)) := by
  pointwise [k0_pay24]
  rw [cum_read R hz]

theorem expneg_read (i : Fin 256) (k : Fin 16) :
    k0_pay25 (F := Ideal) (k0_pay21 (k0_pay18 (k0_pay8 x ones nw W) dtb) z (k0_pay19 (k0_pay8 x ones nw W) dtb) alog)
      k0_pay22 (ix2 i k) = Ideal.exp (0 - cumE (L.a k) (fun t => L.dt h t k) t0 (i + 1)) := by
  pointwise [k0_pay25]
  rw [cum_read R hz]

theorem expneg_read_t (i : Fin 256) (k : Fin 16) :
    k0_pay26 (F := Ideal) (k0_pay21 (k0_pay18 (k0_pay8 x ones nw W) dtb) z (k0_pay19 (k0_pay8 x ones nw W) dtb) alog)
      k0_pay22 (ix2 k i) = Ideal.exp (0 - cumE (L.a k) (fun t => L.dt h t k) t0 (i + 1)) := by
  pointwise [k0_pay26]
  rw [expneg_read R hz]

omit hz in
/-- The rows that the point leaves in the halo. -/
theorem halo_read (r : Fin 2) (k : Fin 2176) : k0_pay11 (F := Ideal) (k0_pay7 x ones nw W) (ix2 r k) = L.past h (2 - r) (t0 + 256) k := by
  pointwise [k0_pay11]
  rw [xbc_read R, L.past_of_le h (by omega)]
  exact congrArg (fun s => L.xbc h s k) (show t0 + (254 + (r : ℕ)) = t0 + (256 - (2 - r)) by omega)

end

end Cert.Kernel2Ideal.Value

end
-- ==== Proof.MidPoint.lean ====
/-
  One grid point of the middle layers' launch, from what its body leaves (`outsAt0`) to the layer's functions: the carried state, the halo, and the output rows.
-/
module

public import proofs.«01_k».proof.Proof.MidChunk
public import Idealize.ShloMosaic.Lib.Pipeline.ValueKit
import Idealize.ShloMosaic.Lib.Pipeline.ReadBack
import Idealize.ShloMosaic.Lib.Ring

@[expose] public section

set_option maxRecDepth 16384

noncomputable section

open Cert.Kernel2Ideal Cert.Kernel2Ideal.Gen Idealize.ShloMosaic Idealize.ShloMosaic.TcCoe Idealize.SL.Sem Mamba
open Idealize.ShloMosaic.Pipeline (Dat)

namespace Cert.Kernel2Ideal.Value

variable (m : (ℓ : Loc nD τ sig) → Buf (Elt Ideal) ℓ)

theorem whole_idx (y : S256x2048.Idx) (a : Fin 2) :
    ((Rect.unit (s := S256x2048) ![0, 0] ![256, 2048] inb_S256x2048_S256x2048_0_0).idx y a : ℕ) = y a := by
  fin_cases a
  · show 0 + 1 * (y 0 : ℕ) = y 0
    omega
  · show 0 + 1 * (y 1 : ℕ) = y 1
    omega

/-- What a point finds in its scratch: zeros at the start of a sequence, else what the point before left. -/
def carried (c : Dev nD) (t : Fin cfg0.N) : Vec Ideal S16x128x128 .f32 × Vec Ideal S8x2176 .f32 :=
  if t.val % 4 = 0 then (k0_pay2 (F := Ideal), k0_pay3 (F := Ideal)) else (outsAt0 m c (t.val - 1) (by omega)).2

/-- What the body reads at point `t`. -/
abbrev PointReads (L : Layer) (h : ℕ → Fin 1024 → EReal) (t0 : ℕ) (c : Dev nD) (t : Fin cfg0.N) (halo : Vec Ideal S8x2176 .f32) : Prop :=
  Reads L h t0 (iblk m c 0 t) (View.ld (iblk m c 14 t) (Rect.unit ![0, 0] ![1024, 128] inb_S2048x128_S1024x128_0_0)) (iblk m c 10 t)
    (iblk m c 3 t) (View.ld halo (Rect.unit ![0, 0] ![2, 2176] inb_S8x2176_S2x2176_0_0))
    (View.ld (iblk m c 4 t) (Rect.unit ![0, 0] ![1, 2176] inb_S3x2176_S1x2176_0_0))
    (View.ld (iblk m c 4 t) (Rect.unit ![1, 0] ![1, 2176] inb_S3x2176_S1x2176_1_0))
    (View.ld (iblk m c 4 t) (Rect.unit ![2, 0] ![1, 2176] inb_S3x2176_S1x2176_2_0)) (iblk m c 5 t) (iblk m c 6 t) (iblk m c 7 t)

variable {m} {L : Layer} {h : ℕ → Fin 1024 → EReal} {t0 : ℕ} {c : Dev nD} {t : Fin cfg0.N}

set_option maxHeartbeats 2000000 in
/-- The state after a point. -/
theorem state_step (hL : L.Real) (hh : ∀ t d, IsReal (h t d)) (R : PointReads m L h t0 c t (carried m c t).2)
    (hP : ∀ k n p, (carried m c t).1 (ix3 k n p) = wide (fun l => L.state h t0 k p l) n) (y : S16x128x128.Idx) :
    (outsAt0 m c t t.isLt).2.1 y = wide (fun l => L.state h (t0 + 256) (y 0) (y 2) l) (y 1) := by
  have last : ((255 : Fin 256) : ℕ) + 1 = 256 := rfl
  have hz : (FloatOps.ofBits .f32 0#32 : Ideal .f32) = 0 := Ideal.ofBits_zero_f32
  generalize hz' : (FloatOps.ofBits .f32 0#32 : Ideal .f32) = z at hz
  have hX := x_lanes R
  have hB := b_lanes R
  have hD := dt_read R hz
  have hE := exp_read R hz
  have hN := expneg_read R hz
  by_cases ht : t.val % 4 = 0
  case' pos =>
    simp only [carried, if_pos ht] at hX hB hD hE hN hP
    rw [outsAt0_A m c t ht]
    frame_open
    simp (disch := decide) only [↓ View.readCov_skip, ↓ View.readCov_cons_toLoadRect, ↓ View.readCov_fill]
    frame_out
    refine (canon_append_covered [_, _, _, _, _, _, _, _, _, _, _, _, _, _, _, _] [_] y (View.cover_of_tiledL _ ![1, 128, 128] (by rfl) y)).trans ?_
    revert hX hB hD hE hN hP
    generalize k0_pay2 (F := Ideal) = P
  case' neg =>
    simp only [carried, if_neg ht] at hX hB hD hE hN hP
    rw [outsAt0_B m c t ht]
    frame_open
    simp (disch := decide) only [↓ View.readCov_skip, ↓ View.readCov_cons_toLoadRect, ↓ View.readCov_fill]
    frame_out
    simp only [read_unread_whole]
    revert hX hB hD hE hN hP
    generalize (outsAt0 m c (t.val - 1) _).2.1 = P
  all_goals
    rw [hz']
    generalize k0_pay13 (F := Ideal) (k0_pay7 _ _ _ _) (k0_pay9 _ _ _ _ _) (k0_pay10 _ _ _ _ _ _) _ _ _ = XS
    generalize k0_pay15 (F := Ideal) (k0_pay7 _ _ _ _) (k0_pay9 _ _ _ _ _) (k0_pay10 _ _ _ _ _ _) _ _ _ = BP
    generalize k0_pay20 (F := Ideal) _ _ _ = DT
    generalize k0_pay21 (F := Ideal) _ _ _ _ = PRE
    intro e1 e2 e3 e4 e5 e6
    canon_tiles y h
    all_goals
      rename_i y
      idx_vars y
      pointwise [k0_pay28, k0_pay29, k0_pay30, k0_pay31, k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117,
      k0_pay118, k0_pay119, k0_pay120, k0_pay121, k0_pay122]
      simp only [e1, e2, e3, e4, e5, e6, last]
      refine Layer.head_state hL hh t0 _ _ _ _ _ _ _ ?_ (Fin.ext (h0.trans ?_)) (Fin.ext h1) (Fin.ext h2)
      all_goals simp

set_option maxHeartbeats 2000000 in
/-- The halo after a point. -/
theorem halo_step (R : PointReads m L h t0 c t (carried m c t).2) (r : Fin 2) (k : Fin 2176) :
    (outsAt0 m c t t.isLt).2.2 (ix2 (r.castLE (by norm_num)) k) = L.past h (2 - r) (t0 + 256) k := by
  rw [← halo_read R]
  have e : (ix2 (r.castLE (by norm_num)) k : S8x2176.Idx) = (Rect.unit (s := S8x2176) ![0, 0] ![2, 2176] inb_S8x2176_S2x2176_0_0).emb (ix2 r k) := by
    blk_ext
    rfl
  by_cases ht : t.val % 4 = 0
  · rw [outsAt0_A m c t ht]
    frame_out
    rw [e]
    exact View.canon_cons_emb _ _ _ _
  · rw [outsAt0_B m c t ht]
    frame_out
    rw [e]
    exact View.read_writes_cons_emb _ _ _ _ _ _

set_option maxHeartbeats 2000000 in
/-- The output rows of a point. -/
theorem out_step (hL : L.Real) (hh : ∀ t d, IsReal (h t d)) (R : PointReads m L h t0 c t (carried m c t).2)
    (hP : ∀ k n p, (carried m c t).1 (ix3 k n p) = wide (fun l => L.state h t0 k p l) n)
    (hd : ∀ k, iblk m c 8 t (ix2 0 k) = L.D k) (ho : ∀ d j, iblk m c 14 t (ix2 d j) = (1 : EReal))
    (hg : ∀ k, iblk m c 9 t (ix2 0 k) = L.gnw k) (hw : ∀ k d, iblk m c 11 t (ix2 k d) = L.outw k d) (i : Fin 256) (o : Fin 1024) :
    (outsAt0 m c t t.isLt).1 (ix3 0 i o) = L.out h (t0 + i) o := by
  have hz : (FloatOps.ofBits .f32 0#32 : Ideal .f32) = 0 := Ideal.ofBits_zero_f32
  generalize hz' : (FloatOps.ofBits .f32 0#32 : Ideal .f32) = z at hz
  have hX := x_lanes R
  have hC := c_lanes R
  have hG := g_read R
  have hD := dt_read R hz
  have hE := exp_read R hz
  have hN := expneg_read_t R hz
  by_cases ht : t.val % 4 = 0
  case' pos =>
    simp only [carried, if_pos ht] at R hX hC hG hD hE hN hP
    rw [outsAt0_A m c t ht]
    frame_open
    simp (disch := decide) only [↓ View.readCov_skip, ↓ View.readCov_cons_toLoadRect, ↓ View.readCov_fill]
    frame_out
    rw [hz']
    revert hP
    generalize k0_pay2 (F := Ideal) = P
    intro hP
  case' neg =>
    simp only [carried, if_neg ht] at R hX hC hG hD hE hN hP
    rw [outsAt0_B m c t ht]
    frame_open
    simp (disch := decide) only [↓ View.readCov_skip, ↓ View.readCov_cons_toLoadRect, ↓ View.readCov_fill]
    frame_out
    simp only [read_unread_whole]
    rw [hz']
    revert hP
    generalize (outsAt0 m c (t.val - 1) _).2.1 = P
    intro hP
  all_goals
    refine out_read R _ _ _ _ (fun i k => ?_) ho hg hw i o
    rw [View.readCov_eq_canon']
    generalize e : (ix2 i k : S256x2048.Idx) = y
    obtain ⟨rfl, rfl⟩ : i = y 0 ∧ k = y 1 := by rw [← e]; exact ⟨rfl, rfl⟩
    revert hX hC hG hD hE hN hP
    generalize k0_pay13 (F := Ideal) (k0_pay7 _ _ _ _) (k0_pay9 _ _ _ _ _) (k0_pay10 _ _ _ _ _ _) _ _ _ = XS
    generalize k0_pay16 (F := Ideal) (k0_pay7 _ _ _ _) (k0_pay9 _ _ _ _ _) (k0_pay10 _ _ _ _ _ _) _ _ _ = CP
    generalize k0_pay17 (F := Ideal) (k0_pay7 _ _ _ _) (k0_pay9 _ _ _ _ _) (k0_pay10 _ _ _ _ _ _) _ _ _ = G
    generalize k0_pay20 (F := Ideal) _ _ _ = DT
    generalize k0_pay21 (F := Ideal) _ _ _ _ = PRE
    intro e1 e2 e3 e4 e5 e6 e7
    clear R e
    canon_tiles y h
    all_goals
      rename_i y
      idx_vars y
      pointwise [k0_pay28, k0_pay29, k0_pay30, k0_pay31, k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay27]
      simp only [e1, e2, e3, e4, e5, e6, e7, mask_read, hd]
      refine Layer.head_row hL hh t0 _ _ _ _ _ _ ?_ ((whole_idx y 0).symm.trans h0) ((whole_idx y 1).symm.trans h1)
      all_goals simp

end Cert.Kernel2Ideal.Value

end
-- ==== Proof.MidBlocks.lean ====
/-
  The middle layers' launch, read whole: what its windows hold at each grid point, the invariant of the state and the halo it carries along a
  sequence, and the result array as the layer's rows.
-/
module

public import proofs.«01_k».proof.Proof.MidPoint
public import Idealize.ShloMosaic.Lib.Pipeline.ValueKit

@[expose] public section

set_option maxRecDepth 16384

noncomputable section

open Cert.Kernel2Ideal Cert.Kernel2Ideal.Gen Idealize.ShloMosaic Idealize.ShloMosaic.TcCoe Idealize.SL.Sem Mamba
open Idealize.ShloMosaic.Pipeline (Dat)

namespace Cert.Kernel2Ideal.Value

variable (m : (ℓ : Loc nD τ sig) → Buf (Elt Ideal) ℓ) (c : Dev nD)

/-- The places of the blocks: window 0 takes the point's chunk, every other input window its whole array. -/
theorem places : ∀ t : Fin cfg0.N, win0_0.index t = ![t.val / 4, t.val % 4, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_14.index t = ![0, 0] :=
  (by decide +kernel : ∀ t : Fin grid0.N, _)

theorem places15 : ∀ t : Fin cfg0.N, win0_15.index t = ![t.val / 4, t.val % 4, 0] := (by decide +kernel : ∀ t : Fin grid0.N, _)

theorem blk0 (t : Fin cfg0.N) (b : Fin 8) (s : Fin 1024) (i : Fin 256) (d : Fin 1024) (hb : (b : ℕ) = t.val / 4)
    (hs : (s : ℕ) = 256 * (t.val % 4) + i) : iblk m c 0 t (ix3 0 i d) = m ((c : Thread nD τ).loc main_arg0) (ix3 b s d) := by
  blk_ext [iblk, V, places t]

theorem blk3 (t : Fin cfg0.N) (d : Fin 1024) (k : Fin 4240) : iblk m c 3 t (ix2 d k) = m ((c : Thread nD τ).loc main_arg2) (ix2 d k) := by
  blk_point [iblk, V, places t]

theorem blk4 (t : Fin cfg0.N) (r : Fin 3) (k : Fin 2176) :
    iblk m c 4 t (ix2 r k) = m ((c : Thread nD τ).loc main_arg3) (ix3 r 0 k) := by
  blk_point [iblk, V, places t]

theorem blk5 (t : Fin cfg0.N) (k : Fin 2176) : iblk m c 5 t (ix2 0 k) = m ((c : Thread nD τ).loc main_arg4) (ix1 k) := by
  blk_point [iblk, V, places t]

theorem blk6 (t : Fin cfg0.N) (k : Fin 16) : iblk m c 6 t (ix2 0 k) = m ((c : Thread nD τ).loc main_arg5) (ix1 k) := by
  blk_point [iblk, V, places t]

theorem blk7 (t : Fin cfg0.N) (k : Fin 16) : iblk m c 7 t (ix2 0 k) = m ((c : Thread nD τ).loc main_arg6) (ix1 k) := by
  blk_point [iblk, V, places t]

theorem blk8 (t : Fin cfg0.N) (k : Fin 16) : iblk m c 8 t (ix2 0 k) = m ((c : Thread nD τ).loc main_arg7) (ix1 k) := by
  blk_point [iblk, V, places t]

theorem blk9 (t : Fin cfg0.N) (k : Fin 2048) : iblk m c 9 t (ix2 0 k) = m ((c : Thread nD τ).loc main_arg8) (ix1 k) := by
  blk_point [iblk, V, places t]

theorem blk10 (t : Fin cfg0.N) (d : Fin 1024) : iblk m c 10 t (ix2 0 d) = m ((c : Thread nD τ).loc main_arg1) (ix1 d) := by
  blk_point [iblk, V, places t]

theorem blk11 (t : Fin cfg0.N) (k : Fin 2048) (d : Fin 1024) :
    iblk m c 11 t (ix2 k d) = m ((c : Thread nD τ).loc main_arg9) (ix2 k d) := by
  blk_point [iblk, V, places t]

theorem blk14 (t : Fin cfg0.N) (d : Fin 2048) (j : Fin 128) : iblk m c 14 t (ix2 d j) = (1 : EReal) := by
  blk_simp [iblk, V, places t]
  entry_read
  pointwise

/-- The layer's parameters and the sequences that enter it. -/
def layer : Layer where
  nw d := m ((c : Thread nD τ).loc main_arg1) (ix1 d)
  W d k := m ((c : Thread nD τ).loc main_arg2) (ix2 d k)
  cw r k := m ((c : Thread nD τ).loc main_arg3) (ix3 r 0 k)
  cb k := m ((c : Thread nD τ).loc main_arg4) (ix1 k)
  dtb k := m ((c : Thread nD τ).loc main_arg5) (ix1 k)
  alog k := m ((c : Thread nD τ).loc main_arg6) (ix1 k)
  D k := m ((c : Thread nD τ).loc main_arg7) (ix1 k)
  gnw k := m ((c : Thread nD τ).loc main_arg8) (ix1 k)
  outw k d := m ((c : Thread nD τ).loc main_arg9) (ix2 k d)
def seq (b s : ℕ) (d : Fin 1024) : EReal :=
  if h : b < 8 ∧ s < 1024 then m ((c : Thread nD τ).loc main_arg0) (ix3 ⟨b, h.1⟩ ⟨s, h.2⟩ d) else 0

/-- What a point finds carried is what the rows before its chunk leave. -/
structure Carried (t : Fin cfg0.N) : Prop where
  state : ∀ k n p, (carried m c t).1 (ix3 k n p) = wide (fun l => (layer m c).state (seq m c (t.val / 4)) (256 * (t.val % 4)) k p l) n
  halo : ∀ (r : Fin 2) k, (carried m c t).2 (ix2 (r.castLE (by norm_num)) k)
    = (layer m c).past (seq m c (t.val / 4)) (2 - r) (256 * (t.val % 4)) k

variable {m c}

theorem Carried.reads {t : Fin cfg0.N} (hc : Carried m c t) :
    PointReads m (layer m c) (seq m c (t.val / 4)) (256 * (t.val % 4)) c t (carried m c t).2 where
  x i d := by
    have hN : cfg0.N = 32 := rfl
    have ht := t.isLt
    rw [seq, dif_pos ⟨by omega, by omega⟩]
    exact blk0 m c t _ _ i d rfl rfl
  ones d j := by
    pointwise
    exact blk14 m c t _ j
  nw d := blk10 m c t d
  W d k := blk3 m c t d k
  halo r k := by
    rw [← hc.halo]
    pointwise
    rfl
  w0 k := by
    pointwise
    exact blk4 m c t 0 k
  w1 k := by
    pointwise
    exact blk4 m c t 1 k
  w2 k := by
    pointwise
    exact blk4 m c t 2 k
  cb k := blk5 m c t k
  dtb k := blk6 m c t k
  alog k := blk7 m c t k

/-- A sequence starts with nothing before it. -/
theorem Carried.start {t : Fin cfg0.N} (ht : t.val % 4 = 0) : Carried m c t where
  state k n p := by
    rw [carried, if_pos ht]
    pointwise [k0_pay2]
    simp [wide, Layer.state, stateE, ht]
  halo r k := by
    rw [carried, if_pos ht]
    pointwise [k0_pay3]
    rw [Layer.past, if_pos (by rw [ht]; omega)]

section
variable (hL : (layer m c).Real) (hh : ∀ b s d, IsReal (seq m c b s d))
include hL hh

theorem carried_all (n : ℕ) (hn : n < cfg0.N) : Carried m c ⟨n, hn⟩ := by
  induction n with
  | zero => exact Carried.start rfl
  | succ n ih =>
    by_cases h4 : (n + 1) % 4 = 0
    · exact Carried.start h4
    have hc := ih (by omega)
    have e : carried m c ⟨n + 1, hn⟩ = (outsAt0 m c n (by omega)).2 := if_neg h4
    have e1 : (n + 1) / 4 = n / 4 := by omega
    have e2 : 256 * ((n + 1) % 4) = 256 * (n % 4) + 256 := by omega
    constructor
    · intro k l p
      rw [e]
      simp only [e1, e2]
      exact state_step hL (hh _) hc.reads hc.state (ix3 k l p)
    · intro r k
      rw [e]
      simp only [e1, e2]
      exact halo_step hc.reads r k

/-- The result array: the layer's rows. -/
theorem result (b : Fin 8) (s : Fin 1024) (o : Fin 1024) : G15 m c (ix3 b s o) = (layer m c).out (seq m c b) s o := by
  have e : G15 m c = fun i : S8x1024x1024.Idx => ((layer m c).out (seq m c (i 0)) (i 1) (i 2) : EReal) := by
    refine (final15 m c).symm.trans ((dats m 0 c).arrAt_eq_of_covers 15 _ (by decide +kernel) fun t hf y => ?_)
    have hN : cfg0.N = 32 := rfl
    have ht := t.isLt
    have hp := places15 t
    have hc := carried_all hL hh t.val t.isLt
    have e0 : win0_15.index t 0 = t.val / 4 := by rw [hp]; rfl
    have e1 : win0_15.index t 1 = t.val % 4 := by rw [hp]; rfl
    blk_simp
    rw [after0_15, e0, e1]
    idx_vars y
    have e2 : ((View.whole main_v14).slice (win0_15.rect t)).emb (ix3 y0 y1 y2) 2 = y2 := by
      apply Fin.ext
      blk_simp
      rw [show win0_15.index t 2 = 0 by rw [hp]; rfl]
      omega
    obtain rfl : y0 = 0 := Subsingleton.elim _ _
    refine (out_step hL (hh _) hc.reads hc.state (fun k => blk8 m c t k) (fun d j => blk14 m c t d j) (fun k => blk9 m c t k)
      (fun k d => blk11 m c t k d) y1 y2).trans ?_
    simp only [e2, Nat.mul_comm 256]
  exact congrFun e _

end

end Cert.Kernel2Ideal.Value

end
-- ==== Proof.MidRef.lean ====
module

public import proofs.«01_k».proof.Proof.Common
public import proofs.«01_k».proof.Proof.Gen.Reference2Ideal.Run
public import Idealize.ShloMosaic.Lib.Pipeline.ValueKit
import Idealize.ShloMosaic.Lib.StableHlo.ReadAt
import Idealize.ShloMosaic.Lib.DynamicIndex
import Idealize.ShloMosaic.Lib.WordCmp

/-! The reference's stretches before its loop, read at an index: what a sequence's rows give to the loop. -/

@[expose] public section

set_option maxRecDepth 16384

noncomputable section

open Cert.Reference2Ideal Cert.Reference2Ideal.Gen Idealize.ShloMosaic Idealize.ShloMosaic.TcCoe Idealize.SL.Sem Mamba
open Idealize.ShloMosaic.StableHlo

namespace Cert.Reference2Ideal.Value

variable (V : Valuation τ sig (Elt Ideal))

/-- The layer and the sequences that a valuation of the arguments holds. -/
def layerOf : Layer where
  nw d := V (Proc.devRef .tc main_arg1) (ix1 d)
  W d k := V (Proc.devRef .tc main_arg2) (ix2 d k)
  cw r k := V (Proc.devRef .tc main_arg3) (ix3 r 0 k)
  cb k := V (Proc.devRef .tc main_arg4) (ix1 k)
  dtb k := V (Proc.devRef .tc main_arg5) (ix1 k)
  alog k := V (Proc.devRef .tc main_arg6) (ix1 k)
  D k := V (Proc.devRef .tc main_arg7) (ix1 k)
  gnw k := V (Proc.devRef .tc main_arg8) (ix1 k)
  outw k d := V (Proc.devRef .tc main_arg9) (ix2 k d)
def seqOf (b s : ℕ) (d : Fin 1024) : EReal :=
  if h : b < 8 ∧ s < 1024 then V (Proc.devRef .tc main_arg0) (ix3 ⟨b, h.1⟩ ⟨s, h.2⟩ d) else 0

theorem seqOf_val (b : Fin 8) (t : Fin 1024) (d : Fin 1024) : seqOf V b t d = V (Proc.devRef .tc main_arg0) (ix3 b t d) := by
  rw [seqOf, dif_pos ⟨b.2, t.2⟩]

/-- The valuations after each stretch. -/
def E1 := after hostOps0 V
def E2 := after hostOps0_1 (E1 V)
def E3 := after hostOps0_2 (E2 V)
def E4 := after hostOps0_3 (E3 V)
def E5 := after hostOps0_4 (E4 V)
def E6 := after hostOps0_5 (E5 V)
def E7 := after hostOps0_6 (E6 V)

theorem keep0 (r : Ref sig .tc) (h : r ∉ hostOps0_W) : E1 V (Proc.devRef .tc r) = V (Proc.devRef .tc r) :=
  after_of_writes_sub hostOps0 _ hostOps0_writes h
theorem keep1 (r : Ref sig .tc) (h : r ∉ hostOps0_1_W) : E2 V (Proc.devRef .tc r) = E1 V (Proc.devRef .tc r) :=
  after_of_writes_sub hostOps0_1 _ hostOps0_1_writes h
theorem keep2 (r : Ref sig .tc) (h : r ∉ hostOps0_2_W) : E3 V (Proc.devRef .tc r) = E2 V (Proc.devRef .tc r) :=
  after_of_writes_sub hostOps0_2 _ hostOps0_2_writes h
theorem keep3 (r : Ref sig .tc) (h : r ∉ hostOps0_3_W) : E4 V (Proc.devRef .tc r) = E3 V (Proc.devRef .tc r) :=
  after_of_writes_sub hostOps0_3 _ hostOps0_3_writes h
theorem keep4 (r : Ref sig .tc) (h : r ∉ hostOps0_4_W) : E5 V (Proc.devRef .tc r) = E4 V (Proc.devRef .tc r) :=
  after_of_writes_sub hostOps0_4 _ hostOps0_4_writes h
theorem keep5 (r : Ref sig .tc) (h : r ∉ hostOps0_5_W) : E6 V (Proc.devRef .tc r) = E5 V (Proc.devRef .tc r) :=
  after_of_writes_sub hostOps0_5 _ hostOps0_5_writes h
theorem keep6 (r : Ref sig .tc) (h : r ∉ hostOps0_6_W) : E7 V (Proc.devRef .tc r) = E6 V (Proc.devRef .tc r) :=
  after_of_writes_sub hostOps0_6 _ hostOps0_6_writes h

theorem E1_gate (b : Fin 8) (t : Fin 1024) (k : Fin 2048) :
    E1 V (Proc.devRef .tc main_v14) (ix3 b t k) = (layerOf V).gate (seqOf V b) t k := by
  rw [Layer.gate, proj_div, E1]
  after_reads_at
  simp only [seqOf_val]
  rfl
theorem E1_xbc (b : Fin 8) (t : Fin 1024) (k : Fin 2176) :
    E1 V (Proc.devRef .tc main_v15) (ix3 b t k) = (layerOf V).xbc (seqOf V b) t k := by
  rw [Layer.xbc, proj_div, E1]
  after_reads_at
  simp only [seqOf_val]
  rfl
theorem E1_dt (b : Fin 8) (t : Fin 1024) (k : Fin 16) :
    E1 V (Proc.devRef .tc main_v16) (ix3 b t k) = (layerOf V).proj (seqOf V b t) ⟨4224 + k, by omega⟩ := by
  rw [proj_div, E1]
  after_reads_at
  simp only [seqOf_val]
  rfl
theorem E1_zero : E1 V (Proc.devRef .tc main_c) (Shape.Idx.first h_S_) = 0#32 := by
  rw [E1]
  after_reads_simp
  rfl

/-- The padded input at the convolution's row `j` of `t`. -/
theorem E2_past (b : Fin 8) (t : Fin 1024) (k : Fin 2176) (j : ℕ) (hj : j ≤ 2) (u : Fin 1026) (hu : (u : ℕ) = j + t) :
    E2 V (Proc.devRef .tc main_v17) (ix3 b u k) = (layerOf V).past (seqOf V b) (2 - j) t k := by
  rw [E2]
  after_reads_at
  rw [Layer.past]
  by_cases h : 2 ≤ (u : ℕ)
  · have ht : (t : ℕ) - (2 - j) < 1024 := by omega
    rw [dif_pos (by omega), if_neg (by omega), ← E1_xbc V b ⟨_, ht⟩ k]
    congr 3
    omega
  · rw [dif_neg (by omega), if_pos (by omega), E1_zero]
    change ((((0#32 : BitVec 32).toInt : ℝ)) : EReal) = 0
    simp

theorem E3_conv (b : Fin 8) (t : Fin 1024) (k : Fin 2176) :
    silu (E3 V (Proc.devRef .tc main_v42) (ix3 b t k)) = (layerOf V).conv (seqOf V b) t k := by
  rw [E3]
  after_reads_at
  rw [E2_past V b t k 0 (by norm_num) _ (by simp), E2_past V b t k 1 (by norm_num) _ rfl, E2_past V b t k 2 (by norm_num) _ rfl,
    keep1 V main_arg3 (by decide), keep0 V main_arg3 (by decide), keep1 V main_arg4 (by decide), keep0 V main_arg4 (by decide)]
  simp only [Layer.conv, Layer.conv3, Layer.past, Nat.sub_self, Nat.not_lt_zero, if_false, Nat.sub_zero]
  rfl

theorem E4_conv (b : Fin 8) (t : Fin 1024) (k : Fin 2176) :
    E4 V (Proc.devRef .tc main_v43) (ix3 b t k) = (layerOf V).conv (seqOf V b) t k := by
  rw [E4, ← E3_conv]
  after_reads_at
  rfl

theorem E5_dt (b : Fin 8) (t : Fin 1024) (k : Fin 16) :
    softplus (E5 V (Proc.devRef .tc main_v49) (ix3 b t k)) = (layerOf V).dt (seqOf V b) t k := by
  rw [E5]
  after_reads_at
  rw [keep3 V main_v16 (by decide), keep2 V main_v16 (by decide), keep1 V main_v16 (by decide), E1_dt,
    keep3 V main_arg5 (by decide), keep2 V main_arg5 (by decide), keep1 V main_arg5 (by decide), keep0 V main_arg5 (by decide)]
  rfl

theorem E6_dt (b : Fin 8) (t : Fin 1024) (k : Fin 16) :
    E6 V (Proc.devRef .tc main_v50) (ix3 b t k) = (layerOf V).dt (seqOf V b) t k := by
  rw [E6, ← E5_dt]
  after_reads_at
  rw [if_neg (by simp)]
  rfl

theorem E5_X (b : Fin 8) (t : Fin 1024) (k : Fin 2048) :
    E5 V (Proc.devRef .tc main_v44) (ix3 b t k) = (layerOf V).conv (seqOf V b) t ⟨k, by omega⟩ := by
  rw [E5, ← E4_conv]
  after_reads_at
theorem E5_B (b : Fin 8) (t : Fin 1024) (k : Fin 64) :
    E5 V (Proc.devRef .tc main_v45) (ix3 b t k) = (layerOf V).B (seqOf V b) t k := by
  rw [E5, Layer.B, ← E4_conv]
  after_reads_at
theorem E5_C (b : Fin 8) (t : Fin 1024) (k : Fin 64) :
    E5 V (Proc.devRef .tc main_v46) (ix3 b t k) = (layerOf V).C (seqOf V b) t k := by
  rw [E5, Layer.C, ← E4_conv]
  after_reads_at

/-- What the loop carries in: steps first. -/
theorem E7_dt (t : Fin 1024) (b : Fin 8) (k : Fin 16) : E7 V (Proc.devRef .tc main_v60_0) (ix3 t b k) = (layerOf V).dt (seqOf V b) t k := by
  rw [E7, ← E6_dt]
  after_reads_at
  rw [id]
  pointwise
theorem E7_B (t : Fin 1024) (b : Fin 8) (k : Fin 64) : E7 V (Proc.devRef .tc main_v60_1) (ix3 t b k) = (layerOf V).B (seqOf V b) t k := by
  rw [E7, ← E5_B, ← keep5 V main_v45 (by decide)]
  after_reads_at
  rw [id]
  pointwise
theorem E7_C (t : Fin 1024) (b : Fin 8) (k : Fin 64) : E7 V (Proc.devRef .tc main_v60_2) (ix3 t b k) = (layerOf V).C (seqOf V b) t k := by
  rw [E7, ← E5_C, ← keep5 V main_v46 (by decide)]
  after_reads_at
  rw [id]
  pointwise
theorem E7_xh (b : Fin 8) (t : Fin 1024) (k : Fin 16) (p : Fin 128) :
    E7 V (Proc.devRef .tc main_v53) (ix4 b t k p) = (layerOf V).X (seqOf V b) t k p := by
  have e := E5_X V b t ⟨k * 128 + p, by omega⟩
  rw [← keep5 V main_v44 (by decide)] at e
  rw [E7]
  after_reads_at
  rw [e, Layer.X]
  congr 2
  simp only
  omega
theorem E7_X (t : Fin 1024) (b : Fin 8) (k : Fin 16) (p : Fin 128) :
    E7 V (Proc.devRef .tc main_v60_3) (ix4 t b k p) = (layerOf V).X (seqOf V b) t k p := by
  have e := E5_X V b t ⟨k * 128 + p, by omega⟩
  rw [← keep5 V main_v44 (by decide)] at e
  rw [E7]
  after_reads_at
  rw [id]
  pointwise
  rw [Layer.X]
  refine e.trans ?_
  congr 2
  simp only
  omega
theorem E7_a (k : Fin 16) : E7 V (Proc.devRef .tc main_v60_4) (ix1 k) = (layerOf V).a k := by
  rw [E7]
  after_reads_at
  rw [keep5 V main_arg6 (by decide), keep4 V main_arg6 (by decide), keep3 V main_arg6 (by decide), keep2 V main_arg6 (by decide),
    keep1 V main_arg6 (by decide), keep0 V main_arg6 (by decide)]
  rfl
theorem E7_state (b : Fin 8) (k : Fin 16) (p : Fin 128) (n : Fin 64) : E7 V (Proc.devRef .tc main_v60_6) (ix4 b k p n) = (0 : EReal) := by
  rw [E7]
  after_reads_at
  rw [id]
  pointwise

/-! One trip, at its counter's value. -/

section Trip

variable {V} {j : ℕ} (hj : j < 1024) (hV : V (Proc.devRef .tc main_v60_5) = fun _ => Scf.iv 0#32 1#32 j)

theorem counter_toInt (hj : j < 1024) : (Scf.iv 0#32 1#32 j).toInt = (j : Int) := by
  rw [Scf.toInt_iv (lb := 0#32) (ub := 1024#32) (st := 1#32) (by decide) (show j ≤ Scf.trips 0#32 1024#32 1#32 by rw [show Scf.trips 0#32 1024#32 1#32 = 1024 by decide]; omega)]
  simp

theorem start3 (hj : j < 1024) (a : Fin 3) : ((![fun _ => Scf.iv 0#32 1#32 j, constantI S_ 32 0#32, constantI S_ 32 0#32] : Fin 3 → (⟨S_, .i32⟩ : BufTy).Contents (Elt Ideal)) a (Shape.Idx.first h_S_)).toInt
    = (((![j, 0, 0] : Fin 3 → ℕ) a : ℕ) : Int) := by
  fin_cases a
  · exact counter_toInt hj
  all_goals rfl
theorem start4 (hj : j < 1024) (a : Fin 4) : ((![fun _ => Scf.iv 0#32 1#32 j, constantI S_ 32 0#32, constantI S_ 32 0#32, constantI S_ 32 0#32] : Fin 4 → (⟨S_, .i32⟩ : BufTy).Contents (Elt Ideal)) a (Shape.Idx.first h_S_)).toInt
    = (((![j, 0, 0, 0] : Fin 4 → ℕ) a : ℕ) : Int) := by
  fin_cases a
  · exact counter_toInt hj
  all_goals rfl

theorem slices_dt (hj : j < 1024) : S1024x8x16.Slices ![j, 0, 0] S1x8x16 := ⟨rfl, fun a => by fin_cases a <;> simp [S1024x8x16, S1x8x16] <;> omega⟩
theorem slices_BC (hj : j < 1024) : S1024x8x64.Slices ![j, 0, 0] S1x8x64 := ⟨rfl, fun a => by fin_cases a <;> simp [S1024x8x64, S1x8x64] <;> omega⟩
theorem slices_X (hj : j < 1024) : S1024x8x16x128.Slices ![j, 0, 0, 0] S1x8x16x128 :=
  ⟨rfl, fun a => by fin_cases a <;> simp [S1024x8x16x128, S1x8x16x128] <;> omega⟩

include hj hV

theorem step_state (b : Fin 8) (k : Fin 16) (p : Fin 128) (n : Fin 64) :
    (STEP V (Proc.devRef .tc main_v60_6) (ix4 b k p n) : EReal) = stepE (V (Proc.devRef .tc main_v60_4) (ix1 k)) (V (Proc.devRef .tc main_v60_0) (ix3 ⟨j, hj⟩ b k))
      (V (Proc.devRef .tc main_v60_3) (ix4 ⟨j, hj⟩ b k p)) (V (Proc.devRef .tc main_v60_1) (ix3 ⟨j, hj⟩ b n)) (V (Proc.devRef .tc main_v60_6) (ix4 b k p n)) := by
  rw [STEP_main_v60_6, step_main_v60_6, id, res_main_while0b_v103, res_main_while0b_v84, hV,
    Host.dynamicSlice_eq_extractStridedSlice S1x8x16 _ _ ![j, 0, 0] _ (slices_dt hj) (start3 hj),
    Host.dynamicSlice_eq_extractStridedSlice S1x8x64 _ _ ![j, 0, 0] _ (slices_BC hj) (start3 hj),
    Host.dynamicSlice_eq_extractStridedSlice S1x8x16x128 _ _ ![j, 0, 0, 0] _ (slices_X hj) (start4 hj)]
  pointwise
  rfl
theorem step_y (t : Fin 1024) (b : Fin 8) (k : Fin 16) (p : Fin 128) : STEP V (Proc.devRef .tc main_v60_7) (ix4 t b k p) =
    if (t : ℕ) = j then sumE (fun n => STEP V (Proc.devRef .tc main_v60_6) (ix4 b k p n)) (fun n => V (Proc.devRef .tc main_v60_2) (ix3 ⟨j, hj⟩ b n))
    else V (Proc.devRef .tc main_v60_7) (ix4 t b k p) := by
  have e : res_main_while0b_v103 V = STEP V (Proc.devRef .tc main_v60_6) := (STEP_main_v60_6 V).symm
  rw [STEP_main_v60_7, step_main_v60_7, id, e]
  generalize STEP V (Proc.devRef .tc main_v60_6) = x
  rw [hV, Host.dynamicSlice_eq_extractStridedSlice S1x8x64 _ _ ![j, 0, 0] _ (slices_BC hj) (start3 hj),
    WordCmp.dynamicUpdateSlice_eq_update _ _ _ _ ![j, 0, 0, 0] (slices_X hj) (start4 hj)]
  pointwise
  by_cases ht : (t : ℕ) = j
  · rw [if_pos ht]
    refine dif_pos fun a => ?_
    change Fin 4 at a
    fin_cases a <;> simp [ix4, ht]
  · rw [if_neg ht]
    refine dif_neg fun h => ht ?_
    have h0 : j ≤ (t : ℕ) ∧ (t : ℕ) < j + 1 := h (0 : Fin 4)
    omega

end Trip

end Cert.Reference2Ideal.Value
-- ==== Proof.MidLoop.lean ====
module

public import proofs.«01_k».proof.Proof.MidRef
import Idealize.ShloMosaic.Lib.StableHlo.ReadAt

/-! The reference's loop, trip by trip, and the stretches behind it: the result at an index. -/

@[expose] public section

set_option maxRecDepth 16384

noncomputable section

open Cert.Reference2Ideal Cert.Reference2Ideal.Gen Idealize.ShloMosaic Idealize.ShloMosaic.TcCoe Idealize.SL.Sem Mamba
open Idealize.ShloMosaic.StableHlo

namespace Cert.Reference2Ideal.Value

variable (V : Valuation τ sig (Elt Ideal))

/-- What holds of the carried buffers before trip `j`. -/
structure Inv (j : ℕ) (S : Valuation τ sig (Elt Ideal)) : Prop where
  dt : S (Proc.devRef .tc main_v60_0) = E7 V (Proc.devRef .tc main_v60_0)
  B : S (Proc.devRef .tc main_v60_1) = E7 V (Proc.devRef .tc main_v60_1)
  C : S (Proc.devRef .tc main_v60_2) = E7 V (Proc.devRef .tc main_v60_2)
  xs : S (Proc.devRef .tc main_v60_3) = E7 V (Proc.devRef .tc main_v60_3)
  a : S (Proc.devRef .tc main_v60_4) = E7 V (Proc.devRef .tc main_v60_4)
  counter : S (Proc.devRef .tc main_v60_5) = fun _ => Scf.iv 0#32 1#32 j
  state : ∀ (b : Fin 8) (k : Fin 16) (p : Fin 128) (n : Fin 64),
    S (Proc.devRef .tc main_v60_6) (ix4 b k p n) = (layerOf V).state (seqOf V b) j k p n
  y : ∀ (t : Fin 1024) (b : Fin 8) (k : Fin 16) (p : Fin 128), (t : ℕ) < j → S (Proc.devRef .tc main_v60_7) (ix4 t b k p)
    = sumE (fun n => (layerOf V).state (seqOf V b) (t + 1) k p n) (fun n => (layerOf V).C (seqOf V b) t n)

variable {V}

theorem Inv.step {j : ℕ} (hj : j < 1024) {X : Valuation τ sig (Elt Ideal)} (h : Inv V j X) : Inv V (j + 1) (STEP X) := by
  have st : ∀ (b : Fin 8) (k : Fin 16) (p : Fin 128) (n : Fin 64),
      STEP X (Proc.devRef .tc main_v60_6) (ix4 b k p n) = (layerOf V).state (seqOf V b) (j + 1) k p n := by
    intro b k p n
    rw [step_state hj h.counter, h.state, h.a, h.dt, h.xs, h.B, E7_a, E7_dt, E7_X, E7_B]
    rfl
  refine ⟨(STEP_main_v60_0 X).trans h.dt, (STEP_main_v60_1 X).trans h.B, (STEP_main_v60_2 X).trans h.C, (STEP_main_v60_3 X).trans h.xs,
    (STEP_main_v60_4 X).trans h.a, ?_, st, ?_⟩
  · rw [STEP_main_v60_5, step_main_v60_5, h.counter, Scf.iv_succ]
    rfl
  · intro t b k p ht
    rw [step_y hj h.counter]
    by_cases e : (t : ℕ) = j
    · rw [if_pos e]
      subst e
      simp only [st, h.C]
      exact congrArg _ (funext fun n => E7_C V t b n)
    · rw [if_neg e, h.y t b k p (by omega)]

theorem Inv.start : Inv V 0 (E7 V) where
  dt := rfl
  B := rfl
  C := rfl
  xs := rfl
  a := rfl
  counter := by
    rw [E7]
    after_reads_simp
    rfl
  state b k p n := E7_state V b k p n
  y t b k p h := absurd h (Nat.not_lt_zero _)

theorem inv (j : ℕ) (hj : j ≤ 1024) : Inv V j (STEP^[j] (E7 V)) := by
  induction j with
  | zero => exact Inv.start
  | succ j ih =>
    rw [Function.iterate_succ_apply']
    exact (ih (by omega)).step (by omega)

/-- The results of the operations in the loop. -/
def loopW : List (Ref sig .tc) :=
  condOps_W ++ while0Ops0_W ++ while0Ops0_1_W ++ while0Ops0_2_W ++ while0Ops0_3_W ++ while0Ops0_4_W ++ while0Ops0_5_W ++ while0Ops0_6_W

/-- A buffer that the loop does not write is carried through a trip. -/
theorem trip_keep (X : Valuation τ sig (Elt Ideal)) (r : Ref sig .tc) (h : r ∉ loopW) :
    afterL bodyI (after condOps X) (Proc.devRef .tc r) = X (Proc.devRef .tc r) := by
  simp only [loopW, List.mem_append, not_or] at h
  obtain ⟨⟨⟨⟨⟨⟨⟨hc, h0⟩, h1⟩, h2⟩, h3⟩, h4⟩, h5⟩, h6⟩ := h
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

section Memory

variable (m : (ℓ : Loc nD τ sig) → Buf (Elt Ideal) ℓ) (c : Dev nD)

/-- The launch's valuation. -/
def launch : Valuation τ sig (Elt Ideal) := fun b => m (c, b)

theorem entry_eq : entryContents preI m c = E7 (launch m c) := rfl

theorem atK_keep (r : Ref sig .tc) (h : r ∉ loopW) (k : ℕ) : atK m k c (Proc.devRef .tc r) = E7 (launch m c) (Proc.devRef .tc r) := by
  induction k with
  | zero => rfl
  | succ k ih =>
    rw [← ih, ← trip_keep (atK m k c) r h]
    rfl

/-- The results of the operations before the loop. -/
def preW : List (Ref sig .tc) := hostOps0_W ++ hostOps0_1_W ++ hostOps0_2_W ++ hostOps0_3_W ++ hostOps0_4_W ++ hostOps0_5_W ++ hostOps0_6_W

variable (V) in
theorem E7_keep (r : Ref sig .tc) (h : r ∉ preW) : E7 V (Proc.devRef .tc r) = V (Proc.devRef .tc r) := by
  simp only [preW, List.mem_append, not_or] at h
  obtain ⟨⟨⟨⟨⟨⟨h0, h1⟩, h2⟩, h3⟩, h4⟩, h5⟩, h6⟩ := h
  rw [keep6 V r h6, keep5 V r h5, keep4 V r h4, keep3 V r h3, keep2 V r h2, keep1 V r h1, keep0 V r h0]

/-- The valuation behind the loop. -/
def done : Valuation τ sig (Elt Ideal) := after condOps (atK m 1024 c)

theorem done_keep (r : Ref sig .tc) (h : r ∉ loopW) : done m c (Proc.devRef .tc r) = E7 (launch m c) (Proc.devRef .tc r) := by
  have hc : r ∉ condOps_W := by
    simp only [loopW, List.mem_append, not_or] at h
    exact h.1.1.1.1.1.1.1
  rw [done, after_of_writes_sub condOps _ condOps_writes hc, atK_keep m c r h]

theorem done_arg (r : Ref sig .tc) (h : r ∉ loopW) (h' : r ∉ preW) : done m c (Proc.devRef .tc r) = launch m c (Proc.devRef .tc r) :=
  (done_keep m c r h).trans (E7_keep _ r h')

theorem done_y (t : Fin 1024) (b : Fin 8) (k : Fin 16) (p : Fin 128) : done m c (Proc.devRef .tc main_v60_7) (ix4 t b k p)
    = sumE (fun n => (layerOf (launch m c)).state (seqOf (launch m c) b) (t + 1) k p n) (fun n => (layerOf (launch m c)).C (seqOf (launch m c) b) t n) := by
  rw [done, cond_keeps _ main_v60_7 (by decide), atK_agree m c 1024 main_v60_7 (by decide), entry_eq]
  exact (inv 1024 le_rfl).y t b k p t.2

theorem done_gate (b : Fin 8) (t : Fin 1024) (k : Fin 2048) :
    done m c (Proc.devRef .tc main_v14) (ix3 b t k) = (layerOf (launch m c)).gate (seqOf (launch m c) b) t k := by
  rw [done_keep m c main_v14 (by decide), keep6 _ main_v14 (by decide), keep5 _ main_v14 (by decide), keep4 _ main_v14 (by decide),
    keep3 _ main_v14 (by decide), keep2 _ main_v14 (by decide), keep1 _ main_v14 (by decide), E1_gate]

/-- Behind the loop: the scan's output with the skip, by columns, and the gate. -/
def F1 := after hostOps0_7 (done m c)
def F2 := after hostOps0_8 (F1 m c)

/-- The results of the two stretches. -/
def skipW : List (Ref sig .tc) := [main_v61, main_v62, main_v63, main_v64, main_v65, main_v66]
def gateW : List (Ref sig .tc) :=
  [main_call8_v0, main_call8_v1, main_call8_cst, main_call8_v2, main_call8_v3, main_call8_cst_0, main_call8_v4, main_call8_v5, main_v67]

theorem F1_keep (r : Ref sig .tc) (h : r ∉ skipW) : F1 m c (Proc.devRef .tc r) = done m c (Proc.devRef .tc r) :=
  after_of_writes_sub (W := skipW) hostOps0_7 _ (forall_writes_sub_of_map rfl) h
theorem F2_keep (r : Ref sig .tc) (h : r ∉ gateW) : F2 m c (Proc.devRef .tc r) = F1 m c (Proc.devRef .tc r) :=
  after_of_writes_sub (W := gateW) hostOps0_8 _ (forall_writes_sub_of_map rfl) h

theorem F2_y (b : Fin 8) (t : Fin 1024) (k : Fin 2048) :
    F2 m c (Proc.devRef .tc main_v66) (ix3 b t k) = (layerOf (launch m c)).yCol (seqOf (launch m c) b) t k := by
  rw [F2_keep m c main_v66 (by decide), F1]
  after_reads_at
  rw [done_y, done_arg m c main_arg7 (by decide) (by decide), done_keep m c main_v53 (by decide), E7_xh]
  rfl
theorem F2_gate (b : Fin 8) (t : Fin 1024) (k : Fin 2048) :
    F2 m c (Proc.devRef .tc main_v67) (ix3 b t k) = silu ((layerOf (launch m c)).gate (seqOf (launch m c) b) t k) := by
  rw [← done_gate, ← F1_keep m c main_v14 (by decide), F2]
  after_reads_at
  rfl
theorem F2_arg (r : Ref sig .tc) (h : r ∉ loopW) (h' : r ∉ preW) (h7 : r ∉ skipW) (h8 : r ∉ gateW) :
    F2 m c (Proc.devRef .tc r) = launch m c (Proc.devRef .tc r) :=
  (F2_keep m c r h8).trans ((F1_keep m c r h7).trans (done_arg m c r h h'))

/-- The last stretch from what it finds. -/
theorem row (X : Valuation τ sig (Elt Ideal)) (L : Layer) (b : Fin 8) (t : Fin 1024) (o : Fin 1024) (r : Fin 1024 → EReal) (y gate : Fin 2048 → EReal)
    (hr : ∀ d, X (Proc.devRef .tc main_arg0) (ix3 b t d) = r d) (hy : ∀ k, X (Proc.devRef .tc main_v66) (ix3 b t k) = y k)
    (hg : ∀ k, X (Proc.devRef .tc main_v67) (ix3 b t k) = silu (gate k))
    (hn : ∀ k, X (Proc.devRef .tc main_arg8) (ix1 k) = L.gnw k) (hw : ∀ k d, X (Proc.devRef .tc main_arg9) (ix2 k d) = L.outw k d) :
    after hostOps0_9 X (Proc.devRef .tc main_v83) (ix3 b t o) = L.outRow r (Layer.gated gate y) o := by
  rw [outRow_div]
  simp only [Layer.gated]
  after_reads_at
  simp only [hr, hy, hg, hn, hw]

theorem result (b : Fin 8) (t : Fin 1024) (o : Fin 1024) : finalContents condOps preI bodyI postI 1024 m c (Proc.devRef .tc main_v83) (ix3 b t o)
    = (layerOf (launch m c)).out (seqOf (launch m c) b) t o := by
  refine row (F2 m c) (layerOf (launch m c)) b t o (seqOf (launch m c) b t) _ _ (fun d => ?_) (fun k => F2_y m c b t k) (fun k => F2_gate m c b t k)
    (fun k => ?_) (fun k d => ?_)
  · rw [F2_arg m c main_arg0 (by decide) (by decide) (by decide) (by decide), seqOf_val]
  · rw [F2_arg m c main_arg8 (by decide) (by decide) (by decide) (by decide)]
    rfl
  · rw [F2_arg m c main_arg9 (by decide) (by decide) (by decide) (by decide)]
    rfl

/-- The results of the last stretch. -/
def rowW : List (Ref sig .tc) :=
  [main_v68, main_v69, main_cst_6, main_v70, main_v71, main_cst_7, main_v72, main_v73, main_cst_8, main_v74, main_v75, main_v76, main_v77, main_v78, main_v79,
    main_v80, main_v81, main_v82, main_v83]

/-- The reference leaves a buffer that no operation writes. -/
theorem kept (r : Ref sig .tc) (h : r ∉ loopW ∧ r ∉ preW ∧ r ∉ skipW ∧ r ∉ gateW ∧ r ∉ rowW) :
    finalContents condOps preI bodyI postI 1024 m c (Proc.devRef .tc r) = m (c, Proc.devRef .tc r) :=
  (after_of_writes_sub (W := rowW) hostOps0_9 (F2 m c) (forall_writes_sub_of_map rfl) h.2.2.2.2).trans
    (F2_arg m c r h.1 h.2.1 h.2.2.1 h.2.2.2.1)

end Memory

end Cert.Reference2Ideal.Value
-- ==== Proof.MidFinite.lean ====
module

public import proofs.«01_k».proof.Proof.Common
public import proofs.«01_k».proof.Proof.Gen.Pre_finite2
public import Idealize.ShloMosaic.Lib.Pipeline.ValueKit
import Idealize.ShloMosaic.Lib.ReduceAll

/-! What the precondition says: every element of the first seven arguments is a real number. -/

@[expose] public section

set_option maxRecDepth 16384

noncomputable section

open Cert.Pre_finite2 Cert.Pre_finite2.Facts Idealize.ShloMosaic Mamba

namespace Cert.Pre_finite2

variable [hf : Facts]

theorem real_of_fn {a0 : FVec Ideal S8x1024x1024 .f32} {a1 : FVec Ideal S1024 .f32} {a2 : FVec Ideal S1024x4240 .f32} {a3 : FVec Ideal S3x1x2176 .f32}
    {a4 : FVec Ideal S2176 .f32} {a5 a6 a7 : FVec Ideal S16 .f32} {a8 : FVec Ideal S2048 .f32} {a9 : FVec Ideal S2048x1024 .f32}
    (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) := by
  have e := congrFun h (Shape.Idx.first h_S_)
  dsimp only [fn, fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => by funext k; exact k.elim0⟩
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i),
    fun i => real_of_lt (Host.reduce_andi_all _ _ _ _ _ e4 i), fun i => real_of_lt (Host.reduce_andi_all _ _ _ _ _ e5 i),
    fun i => real_of_lt (Host.reduce_andi_all _ _ _ _ _ e6 i)⟩

end Cert.Pre_finite2
-- ==== Proof.MidClaims.lean ====
/-
  The middle layers' launch: the reference's run, and the two programs' results as one array.
-/
module

public import proofs.«01_k».proof.Defs
public import proofs.«01_k».proof.Proof.Gen.Kernel2Ideal
public import proofs.«01_k».proof.Proof.Gen.Kernel2Ideal.Frame
public import proofs.«01_k».proof.Proof.Gen.Reference2Ideal
public import proofs.«01_k».proof.Proof.Gen.Pre_finite2
public import proofs.«01_k».proof.Proof.Gen.Kernel2Ideal.Value
public import proofs.«01_k».proof.Proof.Gen.Reference2Ideal.Run
public import proofs.«01_k».proof.Proof.MidBlocks
public import proofs.«01_k».proof.Proof.MidLoop
public import proofs.«01_k».proof.Proof.MidFinite
public import Idealize.ShloMosaic.Lib.Claim
public import Idealize.ShloMosaic.Lib.Quiescent
public import Idealize.ShloMosaic.Adequacy
public import Idealize.ShloMosaic.Init

@[expose] public section

noncomputable section

namespace Cert.Proof.Mid

open Idealize.ShloMosaic Idealize.ShloMosaic.TcCoe Idealize.SL.Sem Mamba

section Reference

open Cert.Reference2Ideal Cert.Reference2Ideal.Gen Cert.Reference2Ideal.Value

/-- The reference's result as the claim names it. -/
def refResult (m : (ℓ : Loc nD τ sig) → Buf (Elt Ideal) ℓ) (c : Dev nD) : Buf (Elt Ideal) ((c.tc : Thread nD τ).loc main_v83) :=
  StableHlo.finalContents condOps preI bodyI postI 1024 m c (Proc.devRef .tc main_v83)

/-- The reference's run: its result, and its arguments as they were. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v83) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r h => ⟨fun c => ⟨h c main_v83 rfl, ?_⟩, sem_eq_zero_of_no_sems rfl _⟩) (run_fold m g)
  have k : ∀ b : Ref sig .tc, (Proc.devRef .tc b : DevRef τ sig).isScoped = false → (b ∉ Value.loopW ∧ b ∉ Value.preW ∧ b ∉ Value.skipW ∧ b ∉ Value.gateW ∧ b ∉ Value.rowW) →
      r.2.mem ((c.tc : Thread nD τ).loc b) = m ((c.tc : Thread nD τ).loc b) := fun b hb hw => (h c b hb).trans (Value.kept m c b hw)
  exact ⟨k main_arg0 rfl (by decide), k main_arg1 rfl (by decide), k main_arg2 rfl (by decide), k main_arg3 rfl (by decide), k main_arg4 rfl (by decide),
    k main_arg5 rfl (by decide), k main_arg6 rfl (by decide), k main_arg7 rfl (by decide), k main_arg8 rfl (by decide), k main_arg9 rfl (by decide)⟩

end Reference

theorem frame_reference : Cert.quiescent_Reference2Ideal (hReference2Ideal := Cert.Reference2Ideal.Gen.facts) := fun m g _ =>
  (θ_run Cert.Reference2Ideal.defs _ _).mono (fun _ h => ⟨fun c => (h.1 c).2, h.2⟩) (ref_run m g)

/-- The precondition, for the layer and the sequences that the kernel's memory holds. -/
theorem real_args {m : (ℓ : Loc Cert.Kernel2Ideal.nD Cert.Kernel2Ideal.τ Cert.Kernel2Ideal.sig) → Buf (Elt Ideal) ℓ}
    (h : Cert.Pre_Kernel2Ideal_finite2 (hPre_finite2 := Cert.Pre_finite2.Gen.facts) m) (c : Dev Cert.Kernel2Ideal.nD) :
    (Cert.Kernel2Ideal.Value.layer m c).Real ∧ ∀ b s d, IsReal (Cert.Kernel2Ideal.Value.seq m c b s d) := by
  obtain ⟨h0, h1, h2, h3, h4, h5, h6⟩ := Cert.Pre_finite2.real_of_fn (hf := Cert.Pre_finite2.Gen.facts) (h c)
  refine ⟨⟨fun d => h1 _, fun d k => h2 _, fun s k => h3 _, fun k => h4 _, fun k => h5 _, fun k => h6 _⟩, fun b s d => ?_⟩
  unfold Cert.Kernel2Ideal.Value.seq
  split
  · exact h0 _
  · exact IsReal.zero

section Results

variable {m : (ℓ : Loc Cert.Kernel2Ideal.nD Cert.Kernel2Ideal.τ Cert.Kernel2Ideal.sig) → Buf (Elt Ideal) ℓ}
  {m' : (ℓ : Loc Cert.Reference2Ideal.nD Cert.Reference2Ideal.τ Cert.Reference2Ideal.sig) → Buf (Elt Ideal) ℓ}

/-- The two programs' results are one array when their arguments are: each is the layer over the same rows. -/
theorem results_eq (h : Cert.Pre_Kernel2Ideal_finite2 (hPre_finite2 := Cert.Pre_finite2.Gen.facts) m) (c : Dev Cert.Kernel2Ideal.nD)
    (hl : Cert.Reference2Ideal.Value.layerOf (Cert.Reference2Ideal.Value.launch m' c) = Cert.Kernel2Ideal.Value.layer m c)
    (hs : Cert.Reference2Ideal.Value.seqOf (Cert.Reference2Ideal.Value.launch m' c) = Cert.Kernel2Ideal.Value.seq m c) : refResult m' c = Cert.Kernel2Ideal.Value.G15 m c := by
  obtain ⟨hL, hh⟩ := real_args h c
  funext y
  idx_vars y
  refine (Cert.Reference2Ideal.Value.result m' c y0 y1 y2).trans ?_
  rw [hl, hs]
  exact (Cert.Kernel2Ideal.Value.result hL hh y0 y1 y2).symm

end Results

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  pair_intro
  · run_from (Cert.Kernel2Ideal.Value.run m g)
  · run_from (ref_run m' g')
    obtain ⟨h0, h1, h2, h3, h4, h5, h6, h7, h8, h9⟩ := hagree c
    refine results_eq hpre c ?_ ?_
    · unfold Cert.Reference2Ideal.Value.layerOf Cert.Kernel2Ideal.Value.layer
      congr 1
      · exact funext fun d => congrFun h1 _
      · exact funext fun d => funext fun k => congrFun h2 _
      · exact funext fun s => funext fun k => congrFun h3 _
      · exact funext fun k => congrFun h4 _
      · exact funext fun k => congrFun h5 _
      · exact funext fun k => congrFun h6 _
      · exact funext fun k => congrFun h7 _
      · exact funext fun k => congrFun h8 _
      · exact funext fun k => funext fun d => congrFun h9 _
    · refine funext fun b => funext fun s => funext fun d => ?_
      unfold Cert.Reference2Ideal.Value.seqOf Cert.Kernel2Ideal.Value.seq
      split
      · exact congrFun h0 _
      · rfl

end Cert.Proof.Mid

end
-- ==== Proof.FirstChunk.lean ====
/-
  One grid point of the first layer's launch: the values its body forms from a chunk of 256 rows, read through `Mamba.Layer`. The chunk starts at time `t0`
  of the sequence `h`; `halo` holds the two rows of the convolution's input before it.
-/
module

public import proofs.«01_k».proof.Proof.Gen.Kernel3Ideal.Value
public import proofs.«01_k».proof.Proof.Common
public import Idealize.ShloMosaic.Lib.Pipeline.ValueKit

@[expose] public section

set_option maxRecDepth 16384

noncomputable section

open Cert.Kernel3Ideal Cert.Kernel3Ideal.Gen Idealize.ShloMosaic Idealize.ShloMosaic.TcCoe Idealize.SL.Sem Mamba
open Idealize.ShloMosaic.Pipeline (Dat)

namespace Cert.Kernel3Ideal.Value

/-- What the body reads at a grid point, by coordinates: the rows, the parameters and the halo. -/
structure Reads (L : Layer) (h : ℕ → Fin 1024 → EReal) (t0 : ℕ) (x : FVec Ideal S1x256x512 .f32) (inw : FVec Ideal S512x1024 .bf16)
    (inb : FVec Ideal S1x1024 .f32) (ones : FVec Ideal S1024x128 .bf16)
    (nw : FVec Ideal S1x1024 .f32) (W : FVec Ideal S1024x4240 .bf16) (halo : FVec Ideal S2x2176 .f32) (w0 w1 w2 cb : FVec Ideal S1x2176 .f32)
    (dtb alog : FVec Ideal S1x16 .f32) : Prop where
  x : ∀ i d, inRow (fun e => x (ix3 0 i e)) (fun e d => inw (ix2 e d)) (fun d => inb (ix2 0 d)) d = h (t0 + i) d
  ones : ∀ d j, ones (ix2 d j) = 1
  nw : ∀ d, nw (ix2 0 d) = L.nw d
  W : ∀ d k, W (ix2 d k) = L.W d k
  halo : ∀ (r : Fin 2) k, halo (ix2 r k) = L.past h (2 - r) t0 k
  w0 : ∀ k, w0 (ix2 0 k) = L.cw 0 k
  w1 : ∀ k, w1 (ix2 0 k) = L.cw 1 k
  w2 : ∀ k, w2 (ix2 0 k) = L.cw 2 k
  cb : ∀ k, cb (ix2 0 k) = L.cb k
  dtb : ∀ k, dtb (ix2 0 k) = L.dtb k
  alog : ∀ k, alog (ix2 0 k) = L.alog k

section

variable {L : Layer} {h : ℕ → Fin 1024 → EReal} {t0 : ℕ} {x : FVec Ideal S1x256x512 .f32} {inw : FVec Ideal S512x1024 .bf16}
  {inb : FVec Ideal S1x1024 .f32} {ones : FVec Ideal S1024x128 .bf16}
  {nw : FVec Ideal S1x1024 .f32} {W : FVec Ideal S1024x4240 .bf16} {halo : FVec Ideal S2x2176 .f32} {w0 w1 w2 cb : FVec Ideal S1x2176 .f32}
  {dtb alog : FVec Ideal S1x16 .f32}
variable (R : Reads L h t0 x inw inb ones nw W halo w0 w1 w2 cb dtb alog)

include R

theorem x_read (i : Fin 256) (d : Fin 1024) : k0_pay4 (F := Ideal) x inw inb (ix2 i d) = h (t0 + i) d := by
  pointwise [k0_pay4]
  exact R.x i d

/-- The input projection. -/
theorem proj_read (i : Fin 256) (k : Fin 4240) : k0_pay5 (F := Ideal) x inw inb ones nw W (ix2 i k) = L.proj (h (t0 + i)) k := by
  pointwise [k0_pay5]
  simp only [x_read R, R.ones, R.nw, R.W, mul_one, dite_eq_ite, ite_self, Layer.proj, scale, inv1024, eps]

theorem gate_read (i : Fin 256) (k : Fin 2048) : k0_pay6 (F := Ideal) x inw inb ones nw W (ix2 i k) = L.gate h (t0 + i) k := by
  pointwise [k0_pay6]
  exact proj_read R _ _

theorem xbc_read (i : Fin 256) (k : Fin 2176) : k0_pay7 (F := Ideal) x inw inb ones nw W (ix2 i k) = L.xbc h (t0 + i) k := by
  pointwise [k0_pay7]
  exact proj_read R _ _

theorem dtr_read (i : Fin 256) (k : Fin 16) : k0_pay8 (F := Ideal) x inw inb ones nw W (ix2 i k) = L.proj (h (t0 + i)) ⟨4224 + k, by omega⟩ := by
  pointwise [k0_pay8]
  exact proj_read R _ _

/-- The convolution's input one row and two rows back: the halo's rows, then the chunk's own. -/
theorem past1_read (i : Fin 256) (k : Fin 2176) :
    (if h : (i : ℕ) < 1 then halo (ix2 ⟨1 + i, by omega⟩ k) else k0_pay7 x inw inb ones nw W (ix2 ⟨i - 1, by omega⟩ k)) = L.past h 1 (t0 + i) k := by
  by_cases hi : (i : ℕ) < 1
  · rw [dif_pos hi, R.halo, L.past_of_lt h hi]
    exact congrArg (fun s => L.past h s t0 k) (show 2 - (1 + (i : ℕ)) = 1 - i by omega)
  · rw [dif_neg hi, xbc_read R, L.past_of_le h (by omega)]

theorem past2_read (i : Fin 256) (k : Fin 2176) :
    (if h : (i : ℕ) < 2 then halo (ix2 ⟨i, by omega⟩ k) else k0_pay7 x inw inb ones nw W (ix2 ⟨i - 2, by omega⟩ k)) = L.past h 2 (t0 + i) k := by
  by_cases hi : (i : ℕ) < 2
  · rw [dif_pos hi, R.halo, L.past_of_lt h hi]
  · rw [dif_neg hi, xbc_read R, L.past_of_le h (by omega)]

/-- The convolution and its activation. -/
theorem conv_read (i : Fin 256) (k : Fin 2176) : k0_pay10 (F := Ideal) (k0_pay7 x inw inb ones nw W) halo w0 w1 w2 cb (ix2 i k) = L.conv h (t0 + i) k := by
  pointwise [k0_pay10]
  simp only [past2_read R, past1_read R]
  simp only [xbc_read R, R.w0, R.w1, R.w2, R.cb]
  rfl

theorem x_lanes (i : Fin 256) (k : Fin 2048) :
    k0_pay11 (F := Ideal) (k0_pay7 x inw inb ones nw W) halo w0 w1 w2 cb (ix2 i k)
      = L.conv h (t0 + i) ⟨k, by omega⟩ := by
  pointwise [k0_pay11]
  exact conv_read R _ _

/-- The two projections of the state: 64 lanes each, zero behind. -/
theorem b_lanes (i : Fin 256) (n : Fin 128) :
    k0_pay15 (F := Ideal) (k0_pay13 (k0_pay7 x inw inb ones nw W) halo w0 w1 w2 cb) (ix2 i n)
      = wide (L.B h (t0 + i)) n := by
  pointwise [k0_pay15, k0_pay13, k0_pay12]
  rw [conv_read R, wide, select_lt (by omega) (by norm_num)]
  rfl

theorem c_lanes (i : Fin 256) (n : Fin 128) :
    k0_pay16 (F := Ideal) (k0_pay14 (k0_pay7 x inw inb ones nw W) halo w0 w1 w2 cb) (ix2 i n)
      = wide (L.C h (t0 + i)) n := by
  pointwise [k0_pay16, k0_pay14, k0_pay12]
  rw [wide, select_lt (by omega) (by norm_num)]
  by_cases hn : (n : ℕ) < 64
  · simp only [if_pos hn, dif_pos hn, conv_read R, Layer.C]
    exact congrArg (L.conv h (t0 + i)) (Fin.ext (by show 2048 + (64 + (n : ℕ)) = 2112 + n; omega))
  · rw [if_neg hn, dif_neg hn]

theorem g_read (i j : Fin 256) :
    k0_pay17 (F := Ideal) (k0_pay13 (k0_pay7 x inw inb ones nw W) halo w0 w1 w2 cb)
      (k0_pay14 (k0_pay7 x inw inb ones nw W) halo w0 w1 w2 cb) (ix2 i j)
      = ∑ n, L.C h (t0 + i) n * L.B h (t0 + j) n := by
  pointwise [k0_pay17]
  simp only [b_lanes R, c_lanes R]
  exact sum_wide _ _

/-- The layer's output row. -/
theorem out_read (Y : FVec Ideal S256x2048 .f32) (o2 : FVec Ideal S2048x128 .bf16) (gnw : FVec Ideal S1x2048 .f32) (outw : FVec Ideal S2048x1024 .bf16)
    (hY : ∀ i k, Y (ix2 i k) = L.yCol h (t0 + i) k) (ho : ∀ d j, o2 (ix2 d j) = 1)
    (hg : ∀ k, gnw (ix2 0 k) = L.gnw k) (hw : ∀ k d, outw (ix2 k d) = L.outw k d) (i : Fin 256) (o : Fin 1024) :
    k0_pay1 (F := Ideal) (k0_pay4 x inw inb) (k0_pay154 (k0_pay6 x inw inb ones nw W) Y o2 gnw) outw (ix3 0 i o) = L.out h (t0 + i) o := by
  have hG : ∀ i k, mulf Y (mulf (k0_pay6 x inw inb ones nw W) (logistic (k0_pay6 x inw inb ones nw W))) (ix2 i k)
      = Layer.gated (L.gate h (t0 + i)) (L.yCol h (t0 + i)) k := by
    intro i k
    pointwise
    rw [hY, gate_read R]
    rfl
  simp only [k0_pay1, k0_pay154]
  generalize mulf Y (mulf (k0_pay6 x inw inb ones nw W) (logistic (k0_pay6 x inw inb ones nw W))) = G at hG ⊢
  have hx := x_read R
  generalize k0_pay4 (F := Ideal) x inw inb = xr at hx ⊢
  generalize hrp : concatenate S256x2048 1 _ _ = rp
  have hr : ∀ i k, rp (ix2 i k) = scale inv2048 (Layer.gated (L.gate h (t0 + i)) (L.yCol h (t0 + i))) := by
    intro i k
    rw [← hrp]
    refine repeat_read _ (fun i => scale inv2048 (Layer.gated (L.gate h (t0 + i)) (L.yCol h (t0 + i)))) (fun i j => ?_) _ i k
    pointwise
    simp only [hG, ho, mul_one]
    rfl
  pointwise
  simp only [hx, hr, hG, hg, hw]
  rfl

/-- The time step. -/
theorem dt_read (i : Fin 256) (k : Fin 16) : k0_pay18 (F := Ideal) (k0_pay8 x inw inb ones nw W) dtb (ix2 i k) = L.dt h (t0 + i) k := by
  pointwise [k0_pay18]
  simp only [dtr_read R, R.dtb, sub_zero, ne_eq, not_true_eq_false, if_false, zero_sub]
  rfl

/-- The running sums of `dt * a`: four doublings, and the others. -/
theorem sums_read (i : Fin 256) (k : Fin 16) :
    k0_pay19 (F := Ideal) (k0_pay8 x inw inb ones nw W) dtb alog (ix2 i k) = window (fun j => L.dt h (t0 + j) k * L.a k) 16 i := by
  simp only [k0_pay19]
  refine double_read 8 _ k _ _ _ _ (double_read 4 _ k _ _ _ _ (double_read 2 _ k _ _ _ _ (double_read 1 _ k _ _ _ _ ?_ ?_) ?_) ?_) ?_ i
  · intro i
    pointwise
    rw [dt_read R, R.alog, window_one, zero_sub]
    rfl
  all_goals
    intro v i
    pointwise

theorem cum_read (i : Fin 256) (k : Fin 16) :
    k0_pay21 (F := Ideal) (k0_pay19 (k0_pay8 x inw inb ones nw W) dtb alog) (k0_pay20 (k0_pay8 x inw inb ones nw W) dtb alog) (ix2 i k)
      = cumE (L.a k) (fun t => L.dt h t k) t0 (i + 1) := by
  simp only [k0_pay21, k0_pay20]
  refine (double_read 128 _ k _ _ _ _ (double_read 64 _ k _ _ _ _ (double_read 32 _ k _ _ _ _ (double_read 16 _ k _ _ _ _
    (fun i => sums_read R i k) ?_) ?_) ?_) ?_ i).trans (window_full _ _ _ (by omega))
  all_goals
    intro v i
    pointwise

theorem exp_read (i : Fin 256) (k : Fin 16) :
    k0_pay22 (F := Ideal) (k0_pay19 (k0_pay8 x inw inb ones nw W) dtb alog) (k0_pay20 (k0_pay8 x inw inb ones nw W) dtb alog) (ix2 i k)
      = Ideal.exp (cumE (L.a k) (fun t => L.dt h t k) t0 (i + 1)) := by
  pointwise [k0_pay22]
  rw [cum_read R]

theorem expneg_read (i : Fin 256) (k : Fin 16) :
    k0_pay23 (F := Ideal) (k0_pay19 (k0_pay8 x inw inb ones nw W) dtb alog) (k0_pay20 (k0_pay8 x inw inb ones nw W) dtb alog) (ix2 i k)
      = Ideal.exp (0 - cumE (L.a k) (fun t => L.dt h t k) t0 (i + 1)) := by
  pointwise [k0_pay23]
  rw [cum_read R]

theorem expneg_read_t (i : Fin 256) (k : Fin 16) :
    k0_pay24 (F := Ideal) (k0_pay19 (k0_pay8 x inw inb ones nw W) dtb alog) (k0_pay20 (k0_pay8 x inw inb ones nw W) dtb alog) (ix2 k i)
      = Ideal.exp (0 - cumE (L.a k) (fun t => L.dt h t k) t0 (i + 1)) := by
  pointwise [k0_pay24]
  rw [expneg_read R]

/-- The rows that the point leaves in the halo. -/
theorem halo_read (r : Fin 2) (k : Fin 2176) : k0_pay9 (F := Ideal) (k0_pay7 x inw inb ones nw W) (ix2 r k) = L.past h (2 - r) (t0 + 256) k := by
  pointwise [k0_pay9]
  rw [xbc_read R, L.past_of_le h (by omega)]
  exact congrArg (fun s => L.xbc h s k) (show t0 + (254 + (r : ℕ)) = t0 + (256 - (2 - r)) by omega)

end

end Cert.Kernel3Ideal.Value

end
-- ==== Proof.FirstPoint.lean ====
/-
  One grid point of the first layer's launch, from what its body leaves (`outsAt0`) to the layer's functions: the carried state, the halo, and the output rows.
-/
module

public import proofs.«01_k».proof.Proof.FirstChunk
public import Idealize.ShloMosaic.Lib.Pipeline.ValueKit
import Idealize.ShloMosaic.Lib.Pipeline.ReadBack
import Idealize.ShloMosaic.Lib.Ring

@[expose] public section

set_option maxRecDepth 16384

noncomputable section

open Cert.Kernel3Ideal Cert.Kernel3Ideal.Gen Idealize.ShloMosaic Idealize.ShloMosaic.TcCoe Idealize.SL.Sem Mamba
open Idealize.ShloMosaic.Pipeline (Dat)

namespace Cert.Kernel3Ideal.Value

variable (m : (ℓ : Loc nD τ sig) → Buf (Elt Ideal) ℓ)

theorem whole_idx (y : S256x2048.Idx) (a : Fin 2) :
    ((Rect.unit (s := S256x2048) ![0, 0] ![256, 2048] inb_S256x2048_S256x2048_0_0).idx y a : ℕ) = y a := by
  fin_cases a
  · show 0 + 1 * (y 0 : ℕ) = y 0
    omega
  · show 0 + 1 * (y 1 : ℕ) = y 1
    omega

/-- What a point finds in its scratch: zeros at the start of a sequence, else what the point before left. -/
def carried (c : Dev nD) (t : Fin cfg0.N) : Vec Ideal S16x128x128 .f32 × Vec Ideal S8x2176 .f32 :=
  if t.val % 4 = 0 then (k0_pay2 (F := Ideal), k0_pay3 (F := Ideal)) else (outsAt0 m c (t.val - 1) (by omega)).2

/-- What the body reads at point `t`. -/
abbrev PointReads (L : Layer) (h : ℕ → Fin 1024 → EReal) (t0 : ℕ) (c : Dev nD) (t : Fin cfg0.N) (halo : Vec Ideal S8x2176 .f32) : Prop :=
  Reads L h t0 (iblk m c 0 t) (iblk m c 1 t) (iblk m c 2 t) (View.ld (iblk m c 14 t) (Rect.unit ![0, 0] ![1024, 128] inb_S2048x128_S1024x128_0_0)) (iblk m c 10 t)
    (iblk m c 3 t) (View.ld halo (Rect.unit ![0, 0] ![2, 2176] inb_S8x2176_S2x2176_0_0))
    (View.ld (iblk m c 4 t) (Rect.unit ![0, 0] ![1, 2176] inb_S3x2176_S1x2176_0_0))
    (View.ld (iblk m c 4 t) (Rect.unit ![1, 0] ![1, 2176] inb_S3x2176_S1x2176_1_0))
    (View.ld (iblk m c 4 t) (Rect.unit ![2, 0] ![1, 2176] inb_S3x2176_S1x2176_2_0)) (iblk m c 5 t) (iblk m c 6 t) (iblk m c 7 t)

variable {m} {L : Layer} {h : ℕ → Fin 1024 → EReal} {t0 : ℕ} {c : Dev nD} {t : Fin cfg0.N}

set_option maxHeartbeats 2000000 in
/-- The state after a point. -/
theorem state_step (hL : L.Real) (hh : ∀ t d, IsReal (h t d)) (R : PointReads m L h t0 c t (carried m c t).2)
    (hP : ∀ k n p, (carried m c t).1 (ix3 k n p) = wide (fun l => L.state h t0 k p l) n) (y : S16x128x128.Idx) :
    (outsAt0 m c t t.isLt).2.1 y = wide (fun l => L.state h (t0 + 256) (y 0) (y 2) l) (y 1) := by
  have last : ((255 : Fin 256) : ℕ) + 1 = 256 := rfl
  have hX := x_lanes R
  have hB := b_lanes R
  have hD := dt_read R
  have hE := exp_read R
  have hN := expneg_read R
  by_cases ht : t.val % 4 = 0
  case' pos =>
    simp only [carried, if_pos ht] at hX hB hD hE hN hP
    rw [outsAt0_A m c t ht]
    frame_open
    simp (disch := decide) only [↓ View.readCov_skip, ↓ View.readCov_cons_toLoadRect, ↓ View.readCov_fill]
    frame_out
    refine (canon_append_covered [_, _, _, _, _, _, _, _, _, _, _, _, _, _, _, _] [_] y (View.cover_of_tiledL _ ![1, 128, 128] (by rfl) y)).trans ?_
    revert hX hB hD hE hN hP
    generalize k0_pay2 (F := Ideal) = P
  case' neg =>
    simp only [carried, if_neg ht] at hX hB hD hE hN hP
    rw [outsAt0_B m c t ht]
    frame_open
    simp (disch := decide) only [↓ View.readCov_skip, ↓ View.readCov_cons_toLoadRect, ↓ View.readCov_fill]
    frame_out
    simp only [read_unread_whole]
    revert hX hB hD hE hN hP
    generalize (outsAt0 m c (t.val - 1) _).2.1 = P
  all_goals
    generalize k0_pay11 (F := Ideal) (k0_pay7 _ _ _ _ _ _) _ _ _ _ _ = XS
    generalize k0_pay15 (F := Ideal) (k0_pay13 (k0_pay7 _ _ _ _ _ _) _ _ _ _ _) = BP
    generalize k0_pay18 (F := Ideal) _ _ = DT
    generalize k0_pay19 (F := Ideal) _ _ _ = PRE
    generalize k0_pay20 (F := Ideal) _ _ _ = PRE16
    intro e1 e2 e3 e4 e5 e6
    canon_tiles y h
    all_goals
      rename_i y
      idx_vars y
      pointwise [k0_pay26, k0_pay27, k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94, k0_pay95,
      k0_pay96, k0_pay97, k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153]
      simp only [e1, e2, e3, e4, e5, e6, last]
      refine Layer.head_state hL hh t0 _ _ _ _ _ _ _ ?_ (Fin.ext (h0.trans ?_)) (Fin.ext h1) (Fin.ext h2)
      all_goals simp

set_option maxHeartbeats 2000000 in
/-- The halo after a point. -/
theorem halo_step (R : PointReads m L h t0 c t (carried m c t).2) (r : Fin 2) (k : Fin 2176) :
    (outsAt0 m c t t.isLt).2.2 (ix2 (r.castLE (by norm_num)) k) = L.past h (2 - r) (t0 + 256) k := by
  rw [← halo_read R]
  have e : (ix2 (r.castLE (by norm_num)) k : S8x2176.Idx) = (Rect.unit (s := S8x2176) ![0, 0] ![2, 2176] inb_S8x2176_S2x2176_0_0).emb (ix2 r k) := by
    blk_ext
    rfl
  by_cases ht : t.val % 4 = 0
  · rw [outsAt0_A m c t ht]
    frame_out
    rw [e]
    exact View.canon_cons_emb _ _ _ _
  · rw [outsAt0_B m c t ht]
    frame_out
    rw [e]
    exact View.read_writes_cons_emb _ _ _ _ _ _

set_option maxHeartbeats 2000000 in
/-- The output rows of a point. -/
theorem out_step (hL : L.Real) (hh : ∀ t d, IsReal (h t d)) (R : PointReads m L h t0 c t (carried m c t).2)
    (hP : ∀ k n p, (carried m c t).1 (ix3 k n p) = wide (fun l => L.state h t0 k p l) n)
    (hd : ∀ k, iblk m c 8 t (ix2 0 k) = L.D k) (ho : ∀ d j, iblk m c 14 t (ix2 d j) = (1 : EReal))
    (hg : ∀ k, iblk m c 9 t (ix2 0 k) = L.gnw k) (hw : ∀ k d, iblk m c 11 t (ix2 k d) = L.outw k d) (i : Fin 256) (o : Fin 1024) :
    (outsAt0 m c t t.isLt).1 (ix3 0 i o) = L.out h (t0 + i) o := by
  have hX := x_lanes R
  have hC := c_lanes R
  have hG := g_read R
  have hD := dt_read R
  have hE := exp_read R
  have hN := expneg_read_t R
  by_cases ht : t.val % 4 = 0
  case' pos =>
    simp only [carried, if_pos ht] at R hX hC hG hD hE hN hP
    rw [outsAt0_A m c t ht]
    frame_open
    simp (disch := decide) only [↓ View.readCov_skip, ↓ View.readCov_cons_toLoadRect, ↓ View.readCov_fill]
    frame_out
    revert hP
    generalize k0_pay2 (F := Ideal) = P
    intro hP
  case' neg =>
    simp only [carried, if_neg ht] at R hX hC hG hD hE hN hP
    rw [outsAt0_B m c t ht]
    frame_open
    simp (disch := decide) only [↓ View.readCov_skip, ↓ View.readCov_cons_toLoadRect, ↓ View.readCov_fill]
    frame_out
    simp only [read_unread_whole]
    revert hP
    generalize (outsAt0 m c (t.val - 1) _).2.1 = P
    intro hP
  all_goals
    refine out_read R _ _ _ _ (fun i k => ?_) ho hg hw i o
    rw [View.readCov_eq_canon']
    generalize e : (ix2 i k : S256x2048.Idx) = y
    obtain ⟨rfl, rfl⟩ : i = y 0 ∧ k = y 1 := by rw [← e]; exact ⟨rfl, rfl⟩
    revert hX hC hG hD hE hN hP
    generalize k0_pay11 (F := Ideal) (k0_pay7 _ _ _ _ _ _) _ _ _ _ _ = XS
    generalize k0_pay16 (F := Ideal) (k0_pay14 (k0_pay7 _ _ _ _ _ _) _ _ _ _ _) = CP
    generalize k0_pay17 (F := Ideal) (k0_pay13 (k0_pay7 _ _ _ _ _ _) _ _ _ _ _) (k0_pay14 (k0_pay7 _ _ _ _ _ _) _ _ _ _ _) = G
    generalize k0_pay18 (F := Ideal) _ _ = DT
    generalize k0_pay19 (F := Ideal) _ _ _ = PRE
    generalize k0_pay20 (F := Ideal) _ _ _ = PRE16
    intro e1 e2 e3 e4 e5 e6 e7
    clear R e
    canon_tiles y h
    all_goals
      rename_i y
      idx_vars y
      pointwise [k0_pay25, k0_pay26, k0_pay27, k0_pay28, k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141, k0_pay142, k0_pay143,
      k0_pay144, k0_pay145, k0_pay146, k0_pay147, k0_pay148, k0_pay149, k0_pay150, k0_pay151, k0_pay152, k0_pay153]
      simp only [e1, e2, e3, e4, e5, e6, e7, mask_read, hd]
      refine Layer.head_row hL hh t0 _ _ _ _ _ _ ?_ ((whole_idx y 0).symm.trans h0) ((whole_idx y 1).symm.trans h1)
      all_goals simp

end Cert.Kernel3Ideal.Value

end
-- ==== Proof.FirstBlocks.lean ====
/-
  The first layer's launch, read whole: what its windows hold at each grid point, the invariant of the state and the halo it carries along a
  sequence, and the result array as the layer's rows.
-/
module

public import proofs.«01_k».proof.Proof.FirstPoint
public import Idealize.ShloMosaic.Lib.Pipeline.ValueKit

@[expose] public section

set_option maxRecDepth 16384

noncomputable section

open Cert.Kernel3Ideal Cert.Kernel3Ideal.Gen Idealize.ShloMosaic Idealize.ShloMosaic.TcCoe Idealize.SL.Sem Mamba
open Idealize.ShloMosaic.Pipeline (Dat)

namespace Cert.Kernel3Ideal.Value

variable (m : (ℓ : Loc nD τ sig) → Buf (Elt Ideal) ℓ) (c : Dev nD)

/-- The places of the blocks: window 0 takes the point's chunk, every other input window its whole array. -/
theorem places : ∀ t : Fin cfg0.N, win0_0.index t = ![t.val / 4, t.val % 4, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_14.index t = ![0, 0] :=
  (by decide +kernel : ∀ t : Fin grid0.N, _)

theorem places15 : ∀ t : Fin cfg0.N, win0_15.index t = ![t.val / 4, t.val % 4, 0] := (by decide +kernel : ∀ t : Fin grid0.N, _)

theorem blk0 (t : Fin cfg0.N) (b : Fin 8) (s : Fin 1024) (i : Fin 256) (d : Fin 512) (hb : (b : ℕ) = t.val / 4)
    (hs : (s : ℕ) = 256 * (t.val % 4) + i) : iblk m c 0 t (ix3 0 i d) = m ((c : Thread nD τ).loc main_arg0) (ix3 b s d) := by
  blk_ext [iblk, V, places t]

theorem blk1 (t : Fin cfg0.N) (e : Fin 512) (d : Fin 1024) : iblk m c 1 t (ix2 e d) = m ((c : Thread nD τ).loc main_arg1) (ix2 e d) := by
  blk_point [iblk, V, places t]

theorem blk2 (t : Fin cfg0.N) (d : Fin 1024) : iblk m c 2 t (ix2 0 d) = m ((c : Thread nD τ).loc main_arg2) (ix1 d) := by
  blk_point [iblk, V, places t]

theorem blk3 (t : Fin cfg0.N) (d : Fin 1024) (k : Fin 4240) : iblk m c 3 t (ix2 d k) = m ((c : Thread nD τ).loc main_arg4) (ix2 d k) := by
  blk_point [iblk, V, places t]

theorem blk4 (t : Fin cfg0.N) (r : Fin 3) (k : Fin 2176) :
    iblk m c 4 t (ix2 r k) = m ((c : Thread nD τ).loc main_arg5) (ix3 r 0 k) := by
  blk_point [iblk, V, places t]

theorem blk5 (t : Fin cfg0.N) (k : Fin 2176) : iblk m c 5 t (ix2 0 k) = m ((c : Thread nD τ).loc main_arg6) (ix1 k) := by
  blk_point [iblk, V, places t]

theorem blk6 (t : Fin cfg0.N) (k : Fin 16) : iblk m c 6 t (ix2 0 k) = m ((c : Thread nD τ).loc main_arg7) (ix1 k) := by
  blk_point [iblk, V, places t]

theorem blk7 (t : Fin cfg0.N) (k : Fin 16) : iblk m c 7 t (ix2 0 k) = m ((c : Thread nD τ).loc main_arg8) (ix1 k) := by
  blk_point [iblk, V, places t]

theorem blk8 (t : Fin cfg0.N) (k : Fin 16) : iblk m c 8 t (ix2 0 k) = m ((c : Thread nD τ).loc main_arg9) (ix1 k) := by
  blk_point [iblk, V, places t]

theorem blk9 (t : Fin cfg0.N) (k : Fin 2048) : iblk m c 9 t (ix2 0 k) = m ((c : Thread nD τ).loc main_arg10) (ix1 k) := by
  blk_point [iblk, V, places t]

theorem blk10 (t : Fin cfg0.N) (d : Fin 1024) : iblk m c 10 t (ix2 0 d) = m ((c : Thread nD τ).loc main_arg3) (ix1 d) := by
  blk_point [iblk, V, places t]

theorem blk11 (t : Fin cfg0.N) (k : Fin 2048) (d : Fin 1024) :
    iblk m c 11 t (ix2 k d) = m ((c : Thread nD τ).loc main_arg11) (ix2 k d) := by
  blk_point [iblk, V, places t]

theorem blk14 (t : Fin cfg0.N) (d : Fin 2048) (j : Fin 128) : iblk m c 14 t (ix2 d j) = (1 : EReal) := by
  blk_simp [iblk, V, places t]
  entry_read
  pointwise

/-- The layer's parameters and the sequences that enter it. -/
def layer : Layer where
  nw d := m ((c : Thread nD τ).loc main_arg3) (ix1 d)
  W d k := m ((c : Thread nD τ).loc main_arg4) (ix2 d k)
  cw r k := m ((c : Thread nD τ).loc main_arg5) (ix3 r 0 k)
  cb k := m ((c : Thread nD τ).loc main_arg6) (ix1 k)
  dtb k := m ((c : Thread nD τ).loc main_arg7) (ix1 k)
  alog k := m ((c : Thread nD τ).loc main_arg8) (ix1 k)
  D k := m ((c : Thread nD τ).loc main_arg9) (ix1 k)
  gnw k := m ((c : Thread nD τ).loc main_arg10) (ix1 k)
  outw k d := m ((c : Thread nD τ).loc main_arg11) (ix2 k d)
def seq (b s : ℕ) (d : Fin 1024) : EReal :=
  if h : b < 8 ∧ s < 1024 then inRow (fun e => m ((c : Thread nD τ).loc main_arg0) (ix3 ⟨b, h.1⟩ ⟨s, h.2⟩ e))
    (fun e d => m ((c : Thread nD τ).loc main_arg1) (ix2 e d)) (fun d => m ((c : Thread nD τ).loc main_arg2) (ix1 d)) d else 0

/-- What a point finds carried is what the rows before its chunk leave. -/
structure Carried (t : Fin cfg0.N) : Prop where
  state : ∀ k n p, (carried m c t).1 (ix3 k n p) = wide (fun l => (layer m c).state (seq m c (t.val / 4)) (256 * (t.val % 4)) k p l) n
  halo : ∀ (r : Fin 2) k, (carried m c t).2 (ix2 (r.castLE (by norm_num)) k)
    = (layer m c).past (seq m c (t.val / 4)) (2 - r) (256 * (t.val % 4)) k

variable {m c}

theorem Carried.reads {t : Fin cfg0.N} (hc : Carried m c t) :
    PointReads m (layer m c) (seq m c (t.val / 4)) (256 * (t.val % 4)) c t (carried m c t).2 where
  x i d := by
    have hN : cfg0.N = 32 := rfl
    have ht := t.isLt
    rw [seq, dif_pos ⟨by omega, by omega⟩]
    have e0 := fun e => blk0 m c t ⟨t.val / 4, by omega⟩ ⟨256 * (t.val % 4) + i, by omega⟩ i e rfl rfl
    simp only [inRow, e0, blk1, blk2]
  ones d j := by
    pointwise
    exact blk14 m c t _ j
  nw d := blk10 m c t d
  W d k := blk3 m c t d k
  halo r k := by
    rw [← hc.halo]
    pointwise
    rfl
  w0 k := by
    pointwise
    exact blk4 m c t 0 k
  w1 k := by
    pointwise
    exact blk4 m c t 1 k
  w2 k := by
    pointwise
    exact blk4 m c t 2 k
  cb k := blk5 m c t k
  dtb k := blk6 m c t k
  alog k := blk7 m c t k

/-- A sequence starts with nothing before it. -/
theorem Carried.start {t : Fin cfg0.N} (ht : t.val % 4 = 0) : Carried m c t where
  state k n p := by
    rw [carried, if_pos ht]
    pointwise [k0_pay2]
    simp [wide, Layer.state, stateE, ht]
  halo r k := by
    rw [carried, if_pos ht]
    pointwise [k0_pay3]
    rw [Layer.past, if_pos (by rw [ht]; omega)]

section
variable (hL : (layer m c).Real) (hh : ∀ b s d, IsReal (seq m c b s d))
include hL hh

theorem carried_all (n : ℕ) (hn : n < cfg0.N) : Carried m c ⟨n, hn⟩ := by
  induction n with
  | zero => exact Carried.start rfl
  | succ n ih =>
    by_cases h4 : (n + 1) % 4 = 0
    · exact Carried.start h4
    have hc := ih (by omega)
    have e : carried m c ⟨n + 1, hn⟩ = (outsAt0 m c n (by omega)).2 := if_neg h4
    have e1 : (n + 1) / 4 = n / 4 := by omega
    have e2 : 256 * ((n + 1) % 4) = 256 * (n % 4) + 256 := by omega
    constructor
    · intro k l p
      rw [e]
      simp only [e1, e2]
      exact state_step hL (hh _) hc.reads hc.state (ix3 k l p)
    · intro r k
      rw [e]
      simp only [e1, e2]
      exact halo_step hc.reads r k

/-- The result array: the layer's rows. -/
theorem result (b : Fin 8) (s : Fin 1024) (o : Fin 1024) : G15 m c (ix3 b s o) = (layer m c).out (seq m c b) s o := by
  have e : G15 m c = fun i : S8x1024x1024.Idx => ((layer m c).out (seq m c (i 0)) (i 1) (i 2) : EReal) := by
    refine (final15 m c).symm.trans ((dats m 0 c).arrAt_eq_of_covers 15 _ (by decide +kernel) fun t hf y => ?_)
    have hN : cfg0.N = 32 := rfl
    have ht := t.isLt
    have hp := places15 t
    have hc := carried_all hL hh t.val t.isLt
    have e0 : win0_15.index t 0 = t.val / 4 := by rw [hp]; rfl
    have e1 : win0_15.index t 1 = t.val % 4 := by rw [hp]; rfl
    blk_simp
    rw [after0_15, e0, e1]
    idx_vars y
    have e2 : ((View.whole main_v14).slice (win0_15.rect t)).emb (ix3 y0 y1 y2) 2 = y2 := by
      apply Fin.ext
      blk_simp
      rw [show win0_15.index t 2 = 0 by rw [hp]; rfl]
      omega
    obtain rfl : y0 = 0 := Subsingleton.elim _ _
    refine (out_step hL (hh _) hc.reads hc.state (fun k => blk8 m c t k) (fun d j => blk14 m c t d j) (fun k => blk9 m c t k)
      (fun k d => blk11 m c t k d) y1 y2).trans ?_
    simp only [e2, Nat.mul_comm 256]
  exact congrFun e _

end

end Cert.Kernel3Ideal.Value

end
-- ==== Proof.FirstRef.lean ====
module

public import proofs.«01_k».proof.Proof.Common
public import proofs.«01_k».proof.Proof.Gen.Reference3Ideal.Run
public import Idealize.ShloMosaic.Lib.Pipeline.ValueKit
import Idealize.ShloMosaic.Lib.StableHlo.ReadAt
import Idealize.ShloMosaic.Lib.DynamicIndex
import Idealize.ShloMosaic.Lib.WordCmp

/-! The reference's stretches before its loop, read at an index: what a sequence's rows give to the loop. -/

@[expose] public section

set_option maxRecDepth 16384

noncomputable section

open Cert.Reference3Ideal Cert.Reference3Ideal.Gen Idealize.ShloMosaic Idealize.ShloMosaic.TcCoe Idealize.SL.Sem Mamba
open Idealize.ShloMosaic.StableHlo

namespace Cert.Reference3Ideal.Value

variable (V : Valuation τ sig (Elt Ideal))

/-- The layer and the sequences that a valuation of the arguments holds. -/
def layerOf : Layer where
  nw d := V (Proc.devRef .tc main_arg3) (ix1 d)
  W d k := V (Proc.devRef .tc main_arg4) (ix2 d k)
  cw r k := V (Proc.devRef .tc main_arg5) (ix3 r 0 k)
  cb k := V (Proc.devRef .tc main_arg6) (ix1 k)
  dtb k := V (Proc.devRef .tc main_arg7) (ix1 k)
  alog k := V (Proc.devRef .tc main_arg8) (ix1 k)
  D k := V (Proc.devRef .tc main_arg9) (ix1 k)
  gnw k := V (Proc.devRef .tc main_arg10) (ix1 k)
  outw k d := V (Proc.devRef .tc main_arg11) (ix2 k d)
def seqOf (b s : ℕ) (d : Fin 1024) : EReal :=
  if h : b < 8 ∧ s < 1024 then inRow (fun e => V (Proc.devRef .tc main_arg0) (ix3 ⟨b, h.1⟩ ⟨s, h.2⟩ e)) (fun e d => V (Proc.devRef .tc main_arg1) (ix2 e d))
    (fun d => V (Proc.devRef .tc main_arg2) (ix1 d)) d else 0

theorem seqOf_val (b : Fin 8) (t : Fin 1024) (d : Fin 1024) : seqOf V b t d
    = inRow (fun e => V (Proc.devRef .tc main_arg0) (ix3 b t e)) (fun e d => V (Proc.devRef .tc main_arg1) (ix2 e d))
      (fun d => V (Proc.devRef .tc main_arg2) (ix1 d)) d := by
  rw [seqOf, dif_pos ⟨b.2, t.2⟩]

/-- The valuations after each stretch. -/
def E1 := after hostOps0 V
def E2 := after hostOps0_1 (E1 V)
def E3 := after hostOps0_2 (E2 V)
def E4 := after hostOps0_3 (E3 V)
def E5 := after hostOps0_4 (E4 V)
def E6 := after hostOps0_5 (E5 V)
def E7 := after hostOps0_6 (E6 V)

theorem keep0 (r : Ref sig .tc) (h : r ∉ hostOps0_W) : E1 V (Proc.devRef .tc r) = V (Proc.devRef .tc r) :=
  after_of_writes_sub hostOps0 _ hostOps0_writes h
theorem keep1 (r : Ref sig .tc) (h : r ∉ hostOps0_1_W) : E2 V (Proc.devRef .tc r) = E1 V (Proc.devRef .tc r) :=
  after_of_writes_sub hostOps0_1 _ hostOps0_1_writes h
theorem keep2 (r : Ref sig .tc) (h : r ∉ hostOps0_2_W) : E3 V (Proc.devRef .tc r) = E2 V (Proc.devRef .tc r) :=
  after_of_writes_sub hostOps0_2 _ hostOps0_2_writes h
theorem keep3 (r : Ref sig .tc) (h : r ∉ hostOps0_3_W) : E4 V (Proc.devRef .tc r) = E3 V (Proc.devRef .tc r) :=
  after_of_writes_sub hostOps0_3 _ hostOps0_3_writes h
theorem keep4 (r : Ref sig .tc) (h : r ∉ hostOps0_4_W) : E5 V (Proc.devRef .tc r) = E4 V (Proc.devRef .tc r) :=
  after_of_writes_sub hostOps0_4 _ hostOps0_4_writes h
theorem keep5 (r : Ref sig .tc) (h : r ∉ hostOps0_5_W) : E6 V (Proc.devRef .tc r) = E5 V (Proc.devRef .tc r) :=
  after_of_writes_sub hostOps0_5 _ hostOps0_5_writes h
theorem keep6 (r : Ref sig .tc) (h : r ∉ hostOps0_6_W) : E7 V (Proc.devRef .tc r) = E6 V (Proc.devRef .tc r) :=
  after_of_writes_sub hostOps0_6 _ hostOps0_6_writes h

theorem E1_h (b : Fin 8) (t : Fin 1024) (d : Fin 1024) : E1 V (Proc.devRef .tc main_v3) (ix3 b t d) = seqOf V b t d := by
  rw [seqOf_val, E1]
  after_reads_at
  rfl
theorem E1_gate (b : Fin 8) (t : Fin 1024) (k : Fin 2048) :
    E1 V (Proc.devRef .tc main_v18) (ix3 b t k) = (layerOf V).gate (seqOf V b) t k := by
  rw [Layer.gate, proj_div, E1]
  after_reads_at
  simp only [seqOf_val]
  rfl
theorem E1_xbc (b : Fin 8) (t : Fin 1024) (k : Fin 2176) :
    E1 V (Proc.devRef .tc main_v19) (ix3 b t k) = (layerOf V).xbc (seqOf V b) t k := by
  rw [Layer.xbc, proj_div, E1]
  after_reads_at
  simp only [seqOf_val]
  rfl
theorem E1_dt (b : Fin 8) (t : Fin 1024) (k : Fin 16) :
    E1 V (Proc.devRef .tc main_v20) (ix3 b t k) = (layerOf V).proj (seqOf V b t) ⟨4224 + k, by omega⟩ := by
  rw [proj_div, E1]
  after_reads_at
  simp only [seqOf_val]
  rfl
theorem E1_zero : E1 V (Proc.devRef .tc main_c) (Shape.Idx.first h_S_) = 0#32 := by
  rw [E1]
  after_reads_simp
  rfl

/-- The padded input at the convolution's row `j` of `t`. -/
theorem E2_past (b : Fin 8) (t : Fin 1024) (k : Fin 2176) (j : ℕ) (hj : j ≤ 2) (u : Fin 1026) (hu : (u : ℕ) = j + t) :
    E2 V (Proc.devRef .tc main_v21) (ix3 b u k) = (layerOf V).past (seqOf V b) (2 - j) t k := by
  rw [E2]
  after_reads_at
  rw [Layer.past]
  by_cases h : 2 ≤ (u : ℕ)
  · have ht : (t : ℕ) - (2 - j) < 1024 := by omega
    rw [dif_pos (by omega), if_neg (by omega), ← E1_xbc V b ⟨_, ht⟩ k]
    congr 3
    omega
  · rw [dif_neg (by omega), if_pos (by omega), E1_zero]
    change ((((0#32 : BitVec 32).toInt : ℝ)) : EReal) = 0
    simp

theorem E3_conv (b : Fin 8) (t : Fin 1024) (k : Fin 2176) :
    silu (E3 V (Proc.devRef .tc main_v46) (ix3 b t k)) = (layerOf V).conv (seqOf V b) t k := by
  rw [E3]
  after_reads_at
  rw [E2_past V b t k 0 (by norm_num) _ (by simp), E2_past V b t k 1 (by norm_num) _ rfl, E2_past V b t k 2 (by norm_num) _ rfl,
    keep1 V main_arg5 (by decide), keep0 V main_arg5 (by decide), keep1 V main_arg6 (by decide), keep0 V main_arg6 (by decide)]
  simp only [Layer.conv, Layer.conv3, Layer.past, Nat.sub_self, Nat.not_lt_zero, if_false, Nat.sub_zero]
  rfl

theorem E4_conv (b : Fin 8) (t : Fin 1024) (k : Fin 2176) :
    E4 V (Proc.devRef .tc main_v47) (ix3 b t k) = (layerOf V).conv (seqOf V b) t k := by
  rw [E4, ← E3_conv]
  after_reads_at
  rfl

theorem E5_dt (b : Fin 8) (t : Fin 1024) (k : Fin 16) :
    softplus (E5 V (Proc.devRef .tc main_v53) (ix3 b t k)) = (layerOf V).dt (seqOf V b) t k := by
  rw [E5]
  after_reads_at
  rw [keep3 V main_v20 (by decide), keep2 V main_v20 (by decide), keep1 V main_v20 (by decide), E1_dt,
    keep3 V main_arg7 (by decide), keep2 V main_arg7 (by decide), keep1 V main_arg7 (by decide), keep0 V main_arg7 (by decide)]
  rfl

theorem E6_dt (b : Fin 8) (t : Fin 1024) (k : Fin 16) :
    E6 V (Proc.devRef .tc main_v54) (ix3 b t k) = (layerOf V).dt (seqOf V b) t k := by
  rw [E6, ← E5_dt]
  after_reads_at
  rw [if_neg (by simp)]
  rfl

theorem E5_X (b : Fin 8) (t : Fin 1024) (k : Fin 2048) :
    E5 V (Proc.devRef .tc main_v48) (ix3 b t k) = (layerOf V).conv (seqOf V b) t ⟨k, by omega⟩ := by
  rw [E5, ← E4_conv]
  after_reads_at
theorem E5_B (b : Fin 8) (t : Fin 1024) (k : Fin 64) :
    E5 V (Proc.devRef .tc main_v49) (ix3 b t k) = (layerOf V).B (seqOf V b) t k := by
  rw [E5, Layer.B, ← E4_conv]
  after_reads_at
theorem E5_C (b : Fin 8) (t : Fin 1024) (k : Fin 64) :
    E5 V (Proc.devRef .tc main_v50) (ix3 b t k) = (layerOf V).C (seqOf V b) t k := by
  rw [E5, Layer.C, ← E4_conv]
  after_reads_at

/-- What the loop carries in: steps first. -/
theorem E7_dt (t : Fin 1024) (b : Fin 8) (k : Fin 16) : E7 V (Proc.devRef .tc main_v64_0) (ix3 t b k) = (layerOf V).dt (seqOf V b) t k := by
  rw [E7, ← E6_dt]
  after_reads_at
  rw [id]
  pointwise
theorem E7_B (t : Fin 1024) (b : Fin 8) (k : Fin 64) : E7 V (Proc.devRef .tc main_v64_1) (ix3 t b k) = (layerOf V).B (seqOf V b) t k := by
  rw [E7, ← E5_B, ← keep5 V main_v49 (by decide)]
  after_reads_at
  rw [id]
  pointwise
theorem E7_C (t : Fin 1024) (b : Fin 8) (k : Fin 64) : E7 V (Proc.devRef .tc main_v64_2) (ix3 t b k) = (layerOf V).C (seqOf V b) t k := by
  rw [E7, ← E5_C, ← keep5 V main_v50 (by decide)]
  after_reads_at
  rw [id]
  pointwise
theorem E7_xh (b : Fin 8) (t : Fin 1024) (k : Fin 16) (p : Fin 128) :
    E7 V (Proc.devRef .tc main_v57) (ix4 b t k p) = (layerOf V).X (seqOf V b) t k p := by
  have e := E5_X V b t ⟨k * 128 + p, by omega⟩
  rw [← keep5 V main_v48 (by decide)] at e
  rw [E7]
  after_reads_at
  rw [e, Layer.X]
  congr 2
  simp only
  omega
theorem E7_X (t : Fin 1024) (b : Fin 8) (k : Fin 16) (p : Fin 128) :
    E7 V (Proc.devRef .tc main_v64_3) (ix4 t b k p) = (layerOf V).X (seqOf V b) t k p := by
  have e := E5_X V b t ⟨k * 128 + p, by omega⟩
  rw [← keep5 V main_v48 (by decide)] at e
  rw [E7]
  after_reads_at
  rw [id]
  pointwise
  rw [Layer.X]
  refine e.trans ?_
  congr 2
  simp only
  omega
theorem E7_a (k : Fin 16) : E7 V (Proc.devRef .tc main_v64_4) (ix1 k) = (layerOf V).a k := by
  rw [E7]
  after_reads_at
  rw [keep5 V main_arg8 (by decide), keep4 V main_arg8 (by decide), keep3 V main_arg8 (by decide), keep2 V main_arg8 (by decide),
    keep1 V main_arg8 (by decide), keep0 V main_arg8 (by decide)]
  rfl
theorem E7_state (b : Fin 8) (k : Fin 16) (p : Fin 128) (n : Fin 64) : E7 V (Proc.devRef .tc main_v64_6) (ix4 b k p n) = (0 : EReal) := by
  rw [E7]
  after_reads_at
  rw [id]
  pointwise

/-! One trip, at its counter's value. -/

section Trip

variable {V} {j : ℕ} (hj : j < 1024) (hV : V (Proc.devRef .tc main_v64_5) = fun _ => Scf.iv 0#32 1#32 j)

theorem counter_toInt (hj : j < 1024) : (Scf.iv 0#32 1#32 j).toInt = (j : Int) := by
  rw [Scf.toInt_iv (lb := 0#32) (ub := 1024#32) (st := 1#32) (by decide) (show j ≤ Scf.trips 0#32 1024#32 1#32 by rw [show Scf.trips 0#32 1024#32 1#32 = 1024 by decide]; omega)]
  simp

theorem start3 (hj : j < 1024) (a : Fin 3) : ((![fun _ => Scf.iv 0#32 1#32 j, constantI S_ 32 0#32, constantI S_ 32 0#32] : Fin 3 → (⟨S_, .i32⟩ : BufTy).Contents (Elt Ideal)) a (Shape.Idx.first h_S_)).toInt
    = (((![j, 0, 0] : Fin 3 → ℕ) a : ℕ) : Int) := by
  fin_cases a
  · exact counter_toInt hj
  all_goals rfl
theorem start4 (hj : j < 1024) (a : Fin 4) : ((![fun _ => Scf.iv 0#32 1#32 j, constantI S_ 32 0#32, constantI S_ 32 0#32, constantI S_ 32 0#32] : Fin 4 → (⟨S_, .i32⟩ : BufTy).Contents (Elt Ideal)) a (Shape.Idx.first h_S_)).toInt
    = (((![j, 0, 0, 0] : Fin 4 → ℕ) a : ℕ) : Int) := by
  fin_cases a
  · exact counter_toInt hj
  all_goals rfl

theorem slices_dt (hj : j < 1024) : S1024x8x16.Slices ![j, 0, 0] S1x8x16 := ⟨rfl, fun a => by fin_cases a <;> simp [S1024x8x16, S1x8x16] <;> omega⟩
theorem slices_BC (hj : j < 1024) : S1024x8x64.Slices ![j, 0, 0] S1x8x64 := ⟨rfl, fun a => by fin_cases a <;> simp [S1024x8x64, S1x8x64] <;> omega⟩
theorem slices_X (hj : j < 1024) : S1024x8x16x128.Slices ![j, 0, 0, 0] S1x8x16x128 :=
  ⟨rfl, fun a => by fin_cases a <;> simp [S1024x8x16x128, S1x8x16x128] <;> omega⟩

include hj hV

theorem step_state (b : Fin 8) (k : Fin 16) (p : Fin 128) (n : Fin 64) :
    (STEP V (Proc.devRef .tc main_v64_6) (ix4 b k p n) : EReal) = stepE (V (Proc.devRef .tc main_v64_4) (ix1 k)) (V (Proc.devRef .tc main_v64_0) (ix3 ⟨j, hj⟩ b k))
      (V (Proc.devRef .tc main_v64_3) (ix4 ⟨j, hj⟩ b k p)) (V (Proc.devRef .tc main_v64_1) (ix3 ⟨j, hj⟩ b n)) (V (Proc.devRef .tc main_v64_6) (ix4 b k p n)) := by
  rw [STEP_main_v64_6, step_main_v64_6, id, res_main_while0b_v107, res_main_while0b_v88, hV,
    Host.dynamicSlice_eq_extractStridedSlice S1x8x16 _ _ ![j, 0, 0] _ (slices_dt hj) (start3 hj),
    Host.dynamicSlice_eq_extractStridedSlice S1x8x64 _ _ ![j, 0, 0] _ (slices_BC hj) (start3 hj),
    Host.dynamicSlice_eq_extractStridedSlice S1x8x16x128 _ _ ![j, 0, 0, 0] _ (slices_X hj) (start4 hj)]
  pointwise
  rfl
theorem step_y (t : Fin 1024) (b : Fin 8) (k : Fin 16) (p : Fin 128) : STEP V (Proc.devRef .tc main_v64_7) (ix4 t b k p) =
    if (t : ℕ) = j then sumE (fun n => STEP V (Proc.devRef .tc main_v64_6) (ix4 b k p n)) (fun n => V (Proc.devRef .tc main_v64_2) (ix3 ⟨j, hj⟩ b n))
    else V (Proc.devRef .tc main_v64_7) (ix4 t b k p) := by
  have e : res_main_while0b_v107 V = STEP V (Proc.devRef .tc main_v64_6) := (STEP_main_v64_6 V).symm
  rw [STEP_main_v64_7, step_main_v64_7, id, e]
  generalize STEP V (Proc.devRef .tc main_v64_6) = x
  rw [hV, Host.dynamicSlice_eq_extractStridedSlice S1x8x64 _ _ ![j, 0, 0] _ (slices_BC hj) (start3 hj),
    WordCmp.dynamicUpdateSlice_eq_update _ _ _ _ ![j, 0, 0, 0] (slices_X hj) (start4 hj)]
  pointwise
  by_cases ht : (t : ℕ) = j
  · rw [if_pos ht]
    refine dif_pos fun a => ?_
    change Fin 4 at a
    fin_cases a <;> simp [ix4, ht]
  · rw [if_neg ht]
    refine dif_neg fun h => ht ?_
    have h0 : j ≤ (t : ℕ) ∧ (t : ℕ) < j + 1 := h (0 : Fin 4)
    omega

end Trip

end Cert.Reference3Ideal.Value
-- ==== Proof.FirstLoop.lean ====
module

public import proofs.«01_k».proof.Proof.FirstRef
import Idealize.ShloMosaic.Lib.StableHlo.ReadAt

/-! The reference's loop, trip by trip, and the stretches behind it: the result at an index. -/

@[expose] public section

set_option maxRecDepth 16384

noncomputable section

open Cert.Reference3Ideal Cert.Reference3Ideal.Gen Idealize.ShloMosaic Idealize.ShloMosaic.TcCoe Idealize.SL.Sem Mamba
open Idealize.ShloMosaic.StableHlo

namespace Cert.Reference3Ideal.Value

variable (V : Valuation τ sig (Elt Ideal))

/-- What holds of the carried buffers before trip `j`. -/
structure Inv (j : ℕ) (S : Valuation τ sig (Elt Ideal)) : Prop where
  dt : S (Proc.devRef .tc main_v64_0) = E7 V (Proc.devRef .tc main_v64_0)
  B : S (Proc.devRef .tc main_v64_1) = E7 V (Proc.devRef .tc main_v64_1)
  C : S (Proc.devRef .tc main_v64_2) = E7 V (Proc.devRef .tc main_v64_2)
  xs : S (Proc.devRef .tc main_v64_3) = E7 V (Proc.devRef .tc main_v64_3)
  a : S (Proc.devRef .tc main_v64_4) = E7 V (Proc.devRef .tc main_v64_4)
  counter : S (Proc.devRef .tc main_v64_5) = fun _ => Scf.iv 0#32 1#32 j
  state : ∀ (b : Fin 8) (k : Fin 16) (p : Fin 128) (n : Fin 64),
    S (Proc.devRef .tc main_v64_6) (ix4 b k p n) = (layerOf V).state (seqOf V b) j k p n
  y : ∀ (t : Fin 1024) (b : Fin 8) (k : Fin 16) (p : Fin 128), (t : ℕ) < j → S (Proc.devRef .tc main_v64_7) (ix4 t b k p)
    = sumE (fun n => (layerOf V).state (seqOf V b) (t + 1) k p n) (fun n => (layerOf V).C (seqOf V b) t n)

variable {V}

theorem Inv.step {j : ℕ} (hj : j < 1024) {X : Valuation τ sig (Elt Ideal)} (h : Inv V j X) : Inv V (j + 1) (STEP X) := by
  have st : ∀ (b : Fin 8) (k : Fin 16) (p : Fin 128) (n : Fin 64),
      STEP X (Proc.devRef .tc main_v64_6) (ix4 b k p n) = (layerOf V).state (seqOf V b) (j + 1) k p n := by
    intro b k p n
    rw [step_state hj h.counter, h.state, h.a, h.dt, h.xs, h.B, E7_a, E7_dt, E7_X, E7_B]
    rfl
  refine ⟨(STEP_main_v64_0 X).trans h.dt, (STEP_main_v64_1 X).trans h.B, (STEP_main_v64_2 X).trans h.C, (STEP_main_v64_3 X).trans h.xs,
    (STEP_main_v64_4 X).trans h.a, ?_, st, ?_⟩
  · rw [STEP_main_v64_5, step_main_v64_5, h.counter, Scf.iv_succ]
    rfl
  · intro t b k p ht
    rw [step_y hj h.counter]
    by_cases e : (t : ℕ) = j
    · rw [if_pos e]
      subst e
      simp only [st, h.C]
      exact congrArg _ (funext fun n => E7_C V t b n)
    · rw [if_neg e, h.y t b k p (by omega)]

theorem Inv.start : Inv V 0 (E7 V) where
  dt := rfl
  B := rfl
  C := rfl
  xs := rfl
  a := rfl
  counter := by
    rw [E7]
    after_reads_simp
    rfl
  state b k p n := E7_state V b k p n
  y t b k p h := absurd h (Nat.not_lt_zero _)

theorem inv (j : ℕ) (hj : j ≤ 1024) : Inv V j (STEP^[j] (E7 V)) := by
  induction j with
  | zero => exact Inv.start
  | succ j ih =>
    rw [Function.iterate_succ_apply']
    exact (ih (by omega)).step (by omega)

/-- The results of the operations in the loop. -/
def loopW : List (Ref sig .tc) :=
  condOps_W ++ while0Ops0_W ++ while0Ops0_1_W ++ while0Ops0_2_W ++ while0Ops0_3_W ++ while0Ops0_4_W ++ while0Ops0_5_W ++ while0Ops0_6_W

/-- A buffer that the loop does not write is carried through a trip. -/
theorem trip_keep (X : Valuation τ sig (Elt Ideal)) (r : Ref sig .tc) (h : r ∉ loopW) :
    afterL bodyI (after condOps X) (Proc.devRef .tc r) = X (Proc.devRef .tc r) := by
  simp only [loopW, List.mem_append, not_or] at h
  obtain ⟨⟨⟨⟨⟨⟨⟨hc, h0⟩, h1⟩, h2⟩, h3⟩, h4⟩, h5⟩, h6⟩ := h
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

section Memory

variable (m : (ℓ : Loc nD τ sig) → Buf (Elt Ideal) ℓ) (c : Dev nD)

/-- The launch's valuation. -/
def launch : Valuation τ sig (Elt Ideal) := fun b => m (c, b)

theorem entry_eq : entryContents preI m c = E7 (launch m c) := rfl

theorem atK_keep (r : Ref sig .tc) (h : r ∉ loopW) (k : ℕ) : atK m k c (Proc.devRef .tc r) = E7 (launch m c) (Proc.devRef .tc r) := by
  induction k with
  | zero => rfl
  | succ k ih =>
    rw [← ih, ← trip_keep (atK m k c) r h]
    rfl

/-- The results of the operations before the loop. -/
def preW : List (Ref sig .tc) := hostOps0_W ++ hostOps0_1_W ++ hostOps0_2_W ++ hostOps0_3_W ++ hostOps0_4_W ++ hostOps0_5_W ++ hostOps0_6_W

variable (V) in
theorem E7_keep (r : Ref sig .tc) (h : r ∉ preW) : E7 V (Proc.devRef .tc r) = V (Proc.devRef .tc r) := by
  simp only [preW, List.mem_append, not_or] at h
  obtain ⟨⟨⟨⟨⟨⟨h0, h1⟩, h2⟩, h3⟩, h4⟩, h5⟩, h6⟩ := h
  rw [keep6 V r h6, keep5 V r h5, keep4 V r h4, keep3 V r h3, keep2 V r h2, keep1 V r h1, keep0 V r h0]

/-- The valuation behind the loop. -/
def done : Valuation τ sig (Elt Ideal) := after condOps (atK m 1024 c)

theorem done_keep (r : Ref sig .tc) (h : r ∉ loopW) : done m c (Proc.devRef .tc r) = E7 (launch m c) (Proc.devRef .tc r) := by
  have hc : r ∉ condOps_W := by
    simp only [loopW, List.mem_append, not_or] at h
    exact h.1.1.1.1.1.1.1
  rw [done, after_of_writes_sub condOps _ condOps_writes hc, atK_keep m c r h]

theorem done_arg (r : Ref sig .tc) (h : r ∉ loopW) (h' : r ∉ preW) : done m c (Proc.devRef .tc r) = launch m c (Proc.devRef .tc r) :=
  (done_keep m c r h).trans (E7_keep _ r h')

theorem done_y (t : Fin 1024) (b : Fin 8) (k : Fin 16) (p : Fin 128) : done m c (Proc.devRef .tc main_v64_7) (ix4 t b k p)
    = sumE (fun n => (layerOf (launch m c)).state (seqOf (launch m c) b) (t + 1) k p n) (fun n => (layerOf (launch m c)).C (seqOf (launch m c) b) t n) := by
  rw [done, cond_keeps _ main_v64_7 (by decide), atK_agree m c 1024 main_v64_7 (by decide), entry_eq]
  exact (inv 1024 le_rfl).y t b k p t.2

theorem done_gate (b : Fin 8) (t : Fin 1024) (k : Fin 2048) :
    done m c (Proc.devRef .tc main_v18) (ix3 b t k) = (layerOf (launch m c)).gate (seqOf (launch m c) b) t k := by
  rw [done_keep m c main_v18 (by decide), keep6 _ main_v18 (by decide), keep5 _ main_v18 (by decide), keep4 _ main_v18 (by decide),
    keep3 _ main_v18 (by decide), keep2 _ main_v18 (by decide), keep1 _ main_v18 (by decide), E1_gate]

/-- Behind the loop: the scan's output with the skip, by columns, and the gate. -/
def F1 := after hostOps0_7 (done m c)
def F2 := after hostOps0_8 (F1 m c)

/-- The results of the two stretches. -/
def skipW : List (Ref sig .tc) := [main_v65, main_v66, main_v67, main_v68, main_v69, main_v70]
def gateW : List (Ref sig .tc) :=
  [main_call8_v0, main_call8_v1, main_call8_cst, main_call8_v2, main_call8_v3, main_call8_cst_0, main_call8_v4, main_call8_v5, main_v71]

theorem F1_keep (r : Ref sig .tc) (h : r ∉ skipW) : F1 m c (Proc.devRef .tc r) = done m c (Proc.devRef .tc r) :=
  after_of_writes_sub (W := skipW) hostOps0_7 _ (forall_writes_sub_of_map rfl) h
theorem F2_keep (r : Ref sig .tc) (h : r ∉ gateW) : F2 m c (Proc.devRef .tc r) = F1 m c (Proc.devRef .tc r) :=
  after_of_writes_sub (W := gateW) hostOps0_8 _ (forall_writes_sub_of_map rfl) h

theorem F2_y (b : Fin 8) (t : Fin 1024) (k : Fin 2048) :
    F2 m c (Proc.devRef .tc main_v70) (ix3 b t k) = (layerOf (launch m c)).yCol (seqOf (launch m c) b) t k := by
  rw [F2_keep m c main_v70 (by decide), F1]
  after_reads_at
  rw [done_y, done_arg m c main_arg9 (by decide) (by decide), done_keep m c main_v57 (by decide), E7_xh]
  rfl
theorem F2_gate (b : Fin 8) (t : Fin 1024) (k : Fin 2048) :
    F2 m c (Proc.devRef .tc main_v71) (ix3 b t k) = silu ((layerOf (launch m c)).gate (seqOf (launch m c) b) t k) := by
  rw [← done_gate, ← F1_keep m c main_v18 (by decide), F2]
  after_reads_at
  rfl
theorem F2_arg (r : Ref sig .tc) (h : r ∉ loopW) (h' : r ∉ preW) (h7 : r ∉ skipW) (h8 : r ∉ gateW) :
    F2 m c (Proc.devRef .tc r) = launch m c (Proc.devRef .tc r) :=
  (F2_keep m c r h8).trans ((F1_keep m c r h7).trans (done_arg m c r h h'))

/-- The last stretch from what it finds. -/
theorem row (X : Valuation τ sig (Elt Ideal)) (L : Layer) (b : Fin 8) (t : Fin 1024) (o : Fin 1024) (r : Fin 1024 → EReal) (y gate : Fin 2048 → EReal)
    (hr : ∀ d, X (Proc.devRef .tc main_v3) (ix3 b t d) = r d) (hy : ∀ k, X (Proc.devRef .tc main_v70) (ix3 b t k) = y k)
    (hg : ∀ k, X (Proc.devRef .tc main_v71) (ix3 b t k) = silu (gate k))
    (hn : ∀ k, X (Proc.devRef .tc main_arg10) (ix1 k) = L.gnw k) (hw : ∀ k d, X (Proc.devRef .tc main_arg11) (ix2 k d) = L.outw k d) :
    after hostOps0_9 X (Proc.devRef .tc main_v87) (ix3 b t o) = L.outRow r (Layer.gated gate y) o := by
  rw [outRow_div]
  simp only [Layer.gated]
  after_reads_at
  simp only [hr, hy, hg, hn, hw]

theorem result (b : Fin 8) (t : Fin 1024) (o : Fin 1024) : finalContents condOps preI bodyI postI 1024 m c (Proc.devRef .tc main_v87) (ix3 b t o)
    = (layerOf (launch m c)).out (seqOf (launch m c) b) t o := by
  refine row (F2 m c) (layerOf (launch m c)) b t o (seqOf (launch m c) b t) _ _ (fun d => ?_) (fun k => F2_y m c b t k) (fun k => F2_gate m c b t k)
    (fun k => ?_) (fun k d => ?_)
  · rw [F2_keep m c main_v3 (by decide), F1_keep m c main_v3 (by decide), done_keep m c main_v3 (by decide), keep6 _ main_v3 (by decide),
      keep5 _ main_v3 (by decide), keep4 _ main_v3 (by decide), keep3 _ main_v3 (by decide), keep2 _ main_v3 (by decide), keep1 _ main_v3 (by decide), E1_h]
  · rw [F2_arg m c main_arg10 (by decide) (by decide) (by decide) (by decide)]
    rfl
  · rw [F2_arg m c main_arg11 (by decide) (by decide) (by decide) (by decide)]
    rfl

/-- The results of the last stretch. -/
def rowW : List (Ref sig .tc) :=
  [main_v72, main_v73, main_cst_6, main_v74, main_v75, main_cst_7, main_v76, main_v77, main_cst_8, main_v78, main_v79, main_v80, main_v81, main_v82, main_v83,
    main_v84, main_v85, main_v86, main_v87]

/-- The reference leaves a buffer that no operation writes. -/
theorem kept (r : Ref sig .tc) (h : r ∉ loopW ∧ r ∉ preW ∧ r ∉ skipW ∧ r ∉ gateW ∧ r ∉ rowW) :
    finalContents condOps preI bodyI postI 1024 m c (Proc.devRef .tc r) = m (c, Proc.devRef .tc r) :=
  (after_of_writes_sub (W := rowW) hostOps0_9 (F2 m c) (forall_writes_sub_of_map rfl) h.2.2.2.2).trans
    (F2_arg m c r h.1 h.2.1 h.2.2.1 h.2.2.2.1)

end Memory

end Cert.Reference3Ideal.Value
-- ==== Proof.FirstFinite.lean ====
module

public import proofs.«01_k».proof.Proof.Common
public import proofs.«01_k».proof.Proof.Gen.Pre_finite3
public import Idealize.ShloMosaic.Lib.Pipeline.ValueKit
import Idealize.ShloMosaic.Lib.ReduceAll

/-! What the precondition says: every element of the first nine arguments is a real number. -/

@[expose] public section

set_option maxRecDepth 16384

noncomputable section

open Cert.Pre_finite3 Cert.Pre_finite3.Facts Idealize.ShloMosaic Mamba

namespace Cert.Pre_finite3

variable [hf : Facts]

theorem real_of_fn {a0 : FVec Ideal S8x1024x512 .f32} {a1 : FVec Ideal S512x1024 .f32} {a2 a3 : FVec Ideal S1024 .f32} {a4 : FVec Ideal S1024x4240 .f32}
    {a5 : FVec Ideal S3x1x2176 .f32} {a6 : FVec Ideal S2176 .f32} {a7 a8 a9 : FVec Ideal S16 .f32} {a10 : FVec Ideal S2048 .f32}
    {a11 : FVec Ideal S2048x1024 .f32} (h : fn (F := Ideal) a0 a1 a2 a3 a4 a5 a6 a7 a8 a9 a10 a11 = fun _ => 1#1) :
    ((∀ i, IsReal (a0 i)) ∧ (∀ i, IsReal (a1 i)) ∧ (∀ i, IsReal (a2 i))) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have e := congrFun h (Shape.Idx.first h_S_)
  dsimp only [fn, fn_part1] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => by funext k; exact k.elim0⟩
  exact ⟨⟨fun i => real_of_lt (Host.reduce_andi_all _ _ _ _ _ e0 i), fun i => real_of_lt (Host.reduce_andi_all _ _ _ _ _ e1 i),
    fun i => real_of_lt (Host.reduce_andi_all _ _ _ _ _ e2 i)⟩, fun i => real_of_lt (Host.reduce_andi_all _ _ _ _ _ e3 i),
    fun i => real_of_lt (Host.reduce_andi_all _ _ _ _ _ e4 i), fun i => real_of_lt (Host.reduce_andi_all _ _ _ _ _ e5 i),
    fun i => real_of_lt (Host.reduce_andi_all _ _ _ _ _ e6 i), fun i => real_of_lt (Host.reduce_andi_all _ _ _ _ _ e7 i),
    fun i => real_of_lt (Host.reduce_andi_all _ _ _ _ _ e8 i)⟩

end Cert.Pre_finite3
-- ==== Proof.FirstClaims.lean ====
/-
  The first layer's launch: the reference's run, and the two programs' results as one array.
-/
module

public import proofs.«01_k».proof.Defs
public import proofs.«01_k».proof.Proof.Gen.Kernel3Ideal
public import proofs.«01_k».proof.Proof.Gen.Kernel3Ideal.Frame
public import proofs.«01_k».proof.Proof.Gen.Reference3Ideal
public import proofs.«01_k».proof.Proof.Gen.Pre_finite3
public import proofs.«01_k».proof.Proof.Gen.Kernel3Ideal.Value
public import proofs.«01_k».proof.Proof.Gen.Reference3Ideal.Run
public import proofs.«01_k».proof.Proof.FirstBlocks
public import proofs.«01_k».proof.Proof.FirstLoop
public import proofs.«01_k».proof.Proof.FirstFinite
public import Idealize.ShloMosaic.Lib.Claim
public import Idealize.ShloMosaic.Lib.Quiescent
public import Idealize.ShloMosaic.Adequacy
public import Idealize.ShloMosaic.Init

@[expose] public section

noncomputable section

namespace Cert.Proof.First

open Idealize.ShloMosaic Idealize.ShloMosaic.TcCoe Idealize.SL.Sem Mamba

section Reference

open Cert.Reference3Ideal Cert.Reference3Ideal.Gen Cert.Reference3Ideal.Value

/-- The reference's result as the claim names it. -/
def refResult (m : (ℓ : Loc nD τ sig) → Buf (Elt Ideal) ℓ) (c : Dev nD) : Buf (Elt Ideal) ((c.tc : Thread nD τ).loc main_v87) :=
  StableHlo.finalContents condOps preI bodyI postI 1024 m c (Proc.devRef .tc main_v87)

/-- The reference's run: its result, and its arguments as they were. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v87) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r h => ⟨fun c => ⟨h c main_v87 rfl, ?_⟩, sem_eq_zero_of_no_sems rfl _⟩) (run_fold m g)
  have k : ∀ b : Ref sig .tc, (Proc.devRef .tc b : DevRef τ sig).isScoped = false → (b ∉ Value.loopW ∧ b ∉ Value.preW ∧ b ∉ Value.skipW ∧ b ∉ Value.gateW ∧ b ∉ Value.rowW) →
      r.2.mem ((c.tc : Thread nD τ).loc b) = m ((c.tc : Thread nD τ).loc b) := fun b hb hw => (h c b hb).trans (Value.kept m c b hw)
  exact ⟨k main_arg0 rfl (by decide), k main_arg1 rfl (by decide), k main_arg2 rfl (by decide), k main_arg3 rfl (by decide), k main_arg4 rfl (by decide),
    k main_arg5 rfl (by decide), k main_arg6 rfl (by decide), k main_arg7 rfl (by decide), k main_arg8 rfl (by decide), k main_arg9 rfl (by decide),
    k main_arg10 rfl (by decide), k main_arg11 rfl (by decide)⟩

end Reference

theorem frame_reference : Cert.quiescent_Reference3Ideal (hReference3Ideal := Cert.Reference3Ideal.Gen.facts) := fun m g _ =>
  (θ_run Cert.Reference3Ideal.defs _ _).mono (fun _ h => ⟨fun c => (h.1 c).2, h.2⟩) (ref_run m g)

/-- The precondition, for the layer and the sequences that the kernel's memory holds. -/
theorem real_args {m : (ℓ : Loc Cert.Kernel3Ideal.nD Cert.Kernel3Ideal.τ Cert.Kernel3Ideal.sig) → Buf (Elt Ideal) ℓ}
    (h : Cert.Pre_Kernel3Ideal_finite3 (hPre_finite3 := Cert.Pre_finite3.Gen.facts) m) (c : Dev Cert.Kernel3Ideal.nD) :
    (Cert.Kernel3Ideal.Value.layer m c).Real ∧ ∀ b s d, IsReal (Cert.Kernel3Ideal.Value.seq m c b s d) := by
  obtain ⟨⟨h0, hW, hB⟩, h1, h2, h3, h4, h5, h6⟩ := Cert.Pre_finite3.real_of_fn (hf := Cert.Pre_finite3.Gen.facts) (h c)
  refine ⟨⟨fun d => h1 _, fun d k => h2 _, fun s k => h3 _, fun k => h4 _, fun k => h5 _, fun k => h6 _⟩, fun b s d => ?_⟩
  unfold Cert.Kernel3Ideal.Value.seq
  split
  · exact inRow_real (fun e => h0 _) (fun e d => hW _) (fun d => hB _) d
  · exact IsReal.zero

section Results

variable {m : (ℓ : Loc Cert.Kernel3Ideal.nD Cert.Kernel3Ideal.τ Cert.Kernel3Ideal.sig) → Buf (Elt Ideal) ℓ}
  {m' : (ℓ : Loc Cert.Reference3Ideal.nD Cert.Reference3Ideal.τ Cert.Reference3Ideal.sig) → Buf (Elt Ideal) ℓ}

/-- The two programs' results are one array when their arguments are: each is the layer over the same rows. -/
theorem results_eq (h : Cert.Pre_Kernel3Ideal_finite3 (hPre_finite3 := Cert.Pre_finite3.Gen.facts) m) (c : Dev Cert.Kernel3Ideal.nD)
    (hl : Cert.Reference3Ideal.Value.layerOf (Cert.Reference3Ideal.Value.launch m' c) = Cert.Kernel3Ideal.Value.layer m c)
    (hs : Cert.Reference3Ideal.Value.seqOf (Cert.Reference3Ideal.Value.launch m' c) = Cert.Kernel3Ideal.Value.seq m c) : refResult m' c = Cert.Kernel3Ideal.Value.G15 m c := by
  obtain ⟨hL, hh⟩ := real_args h c
  funext y
  idx_vars y
  refine (Cert.Reference3Ideal.Value.result m' c y0 y1 y2).trans ?_
  rw [hl, hs]
  exact (Cert.Kernel3Ideal.Value.result hL hh y0 y1 y2).symm

end Results

theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  pair_intro
  · run_from (Cert.Kernel3Ideal.Value.run m g)
  · run_from (ref_run m' g')
    obtain ⟨h0, h1, h2, h3, h4, h5, h6, h7, h8, h9, h10, h11⟩ := hagree c
    refine results_eq hpre c ?_ ?_
    · unfold Cert.Reference3Ideal.Value.layerOf Cert.Kernel3Ideal.Value.layer
      congr 1
      · exact funext fun d => congrFun h3 _
      · exact funext fun d => funext fun k => congrFun h4 _
      · exact funext fun s => funext fun k => congrFun h5 _
      · exact funext fun k => congrFun h6 _
      · exact funext fun k => congrFun h7 _
      · exact funext fun k => congrFun h8 _
      · exact funext fun k => congrFun h9 _
      · exact funext fun k => congrFun h10 _
      · exact funext fun k => funext fun d => congrFun h11 _
    · refine funext fun b => funext fun s => funext fun d => ?_
      unfold Cert.Reference3Ideal.Value.seqOf Cert.Kernel3Ideal.Value.seq
      split
      · exact congr (congr (congr (congrArg inRow (funext fun e => congrFun h0 _)) (funext fun e => funext fun d => congrFun h1 _))
          (funext fun d => congrFun h2 _)) rfl
      · rfl

end Cert.Proof.First

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.Pre_finite2
public import proofs.«01_k».proof.Proof.Gen.Pre_finite3
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.LastClaims
public import proofs.«01_k».proof.Proof.MidClaims
public import proofs.«01_k».proof.Proof.FirstClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  Last.frame_reference, fun m ρ _ => Last.frame_reference m ρ trivial,
  fun m ρ _ => Cert.Kernel2.Gen.frame m ρ, fun m ρ _ => Cert.Kernel2Ideal.Gen.frame m ρ, fun m ρ _ => Cert.Kernel2Ideal.Gen.frame m ρ,
  Mid.frame_reference, fun m ρ _ => Mid.frame_reference m ρ trivial,
  fun m ρ _ => Cert.Kernel3.Gen.frame m ρ, fun m ρ _ => Cert.Kernel3Ideal.Gen.frame m ρ, fun m ρ _ => Cert.Kernel3Ideal.Gen.frame m ρ,
  First.frame_reference, fun m ρ _ => First.frame_reference m ρ trivial,
  trivial, Last.algebraic, trivial, Mid.algebraic, trivial, First.algebraic⟩

end Cert.Proof

end
